-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_segments [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_segments [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_segments [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_segments [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57_0) = v0 c
          ∧ r.2.mem ((c.tc : Thread Cert.ReferenceIdeal.nD Cert.ReferenceIdeal.τ).loc Cert.ReferenceIdeal.main_v57_1) = v1 c
          ∧ r.2.mem ((c.tc : Thread Cert.ReferenceIdeal.nD Cert.ReferenceIdeal.τ).loc Cert.ReferenceIdeal.main_v57_2) = v2 c
          ∧ r.2.mem ((c.tc : Thread Cert.ReferenceIdeal.nD Cert.ReferenceIdeal.τ).loc Cert.ReferenceIdeal.main_v57_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReference : Cert.Reference.Facts) (hReferenceIdeal : Cert.ReferenceIdeal.Facts) (hPre_segments : Cert.Pre_segments.Facts),
    quiescent_Kernel (hKernel := hKernel)
    ∧ quiescent_KernelIdeal (hKernelIdeal := hKernelIdeal)
    ∧ quiescent_KernelIdeal_pre_segments (hKernelIdeal := hKernelIdeal) (hPre_segments := hPre_segments)
    ∧ quiescent_Reference (hReference := hReference)
    ∧ quiescent_ReferenceIdeal (hReferenceIdeal := hReferenceIdeal)
    ∧ quiescent_ReferenceIdeal_pre_segments (hReferenceIdeal := hReferenceIdeal) (hPre_segments := hPre_segments)
    ∧ preserves_Kernel_KernelIdeal
    ∧ algebraic_KernelIdeal_ReferenceIdeal_pre_segments (hKernelIdeal := hKernelIdeal) (hReferenceIdeal := hReferenceIdeal) (hPre_segments := hPre_segments)
-- ==== Pre_segments.lean ====
abbrev S2048x18944 : Shape := ⟨2, ![2048, 18944]⟩
abbrev S2368x3584 : Shape := ⟨2, ![2368, 3584]⟩
abbrev S148x448 : Shape := ⟨2, ![148, 448]⟩
abbrev S148x3584 : Shape := ⟨2, ![148, 3584]⟩
abbrev S52x16x3584 : Shape := ⟨3, ![52, 16, 3584]⟩
abbrev S52x3584 : Shape := ⟨2, ![52, 3584]⟩
abbrev S52 : Shape := ⟨1, ![52]⟩
abbrev S41 : Shape := ⟨1, ![41]⟩
abbrev S40 : Shape := ⟨1, ![40]⟩
abbrev S16x2048 : Shape := ⟨2, ![16, 2048]⟩
abbrev S1x2048 : Shape := ⟨2, ![1, 2048]⟩
abbrev S1 : Shape := ⟨1, ![1]⟩
abbrev S_ : Shape := ⟨0, ![]⟩

class Facts : Prop where
  slices_S41_S1_0 : S41.Slices ![0] S1
  shapeCasts_S1_S_ : S1.ShapeCasts S_
  slices_S41_S1_40 : S41.Slices ![40] S1
  slices_S41_S40_0 : S41.Slices ![0] S40
  slices_S41_S40_1 : S41.Slices ![1] S40
  bcast_S_S40 : S_.BroadcastsInDim S40 (![] : Fin 0 → Fin S40.rank)

variable [Facts]

def fn {F : FTy → Type} [FloatOps F] (main_arg0 : FVec F S2048x18944 .bf16) (main_arg1 : IVec S2368x3584 32) (main_arg2 : IVec S148x448 32) (main_arg3 : FVec F S148x3584 .f16) (main_arg4 : FVec F S52x16x3584 .fp8e4m3) (main_arg5 : FVec F S52x3584 .f32) (main_arg6 : FVec F S52 .f32) (main_arg7 : IVec S41 32) (main_arg8 : IVec S40 32) (main_arg9 : FVec F S16x2048 .fp8e4m3) (main_arg10 : FVec F S1x2048 .f32) : IVec S_ 1 × IVec S_ 1 × IVec S40 1 × IVec S40 1 :=
  let main_v0 : IVec S1 32 := (extractStridedSlice S1 ![0] · slices_S41_S1_0) main_arg7
  let main_v1 : IVec S_ 32 := shapeCast S_ main_v0 shapeCasts_S1_S_
  let main_c : IVec S_ 32 := constantI S_ 32 0#32
  let main_v2 : IVec S_ 1 := cmpi .sle main_v1 main_c
  let main_v3 : IVec S1 32 := (extractStridedSlice S1 ![40] · slices_S41_S1_40) main_arg7
  let main_v4 : IVec S_ 32 := shapeCast S_ main_v3 shapeCasts_S1_S_
  let main_c_0 : IVec S_ 32 := constantI S_ 32 2048#32
  let main_v5 : IVec S_ 1 := cmpi .sge main_v4 main_c_0
  let main_v6 : IVec S40 32 := (extractStridedSlice S40 ![0] · slices_S41_S40_0) main_arg7
  let main_v7 : IVec S40 32 := (extractStridedSlice S40 ![1] · slices_S41_S40_1) main_arg7
  let main_v8 : IVec S40 1 := cmpi .sle main_v6 main_v7
  let main_c_1 : IVec S_ 32 := constantI S_ 32 52#32
  let main_v9 : IVec S40 32 := broadcastInDim S40 ![] bcast_S_S40 main_c_1
  let main_v10 : IVec S40 1 := cmpi .slt main_arg8 main_v9
  (main_v2, main_v5, main_v8, main_v10)
-- ==== Kernel.lean ====
abbrev S2048x18944 : Shape := ⟨2, ![2048, 18944]⟩
abbrev S2368x3584 : Shape := ⟨2, ![2368, 3584]⟩
abbrev S148x448 : Shape := ⟨2, ![148, 448]⟩
abbrev S148x3584 : Shape := ⟨2, ![148, 3584]⟩
abbrev S52x16x3584 : Shape := ⟨3, ![52, 16, 3584]⟩
abbrev S52x3584 : Shape := ⟨2, ![52, 3584]⟩
abbrev S52 : Shape := ⟨1, ![52]⟩
abbrev S41 : Shape := ⟨1, ![41]⟩
abbrev S40 : Shape := ⟨1, ![40]⟩
abbrev S16x2048 : Shape := ⟨2, ![16, 2048]⟩
abbrev S1x2048 : Shape := ⟨2, ![1, 2048]⟩
abbrev S8 : Shape := ⟨1, ![8]⟩
abbrev S_ : Shape := ⟨0, ![]⟩
abbrev S148x448x1 : Shape := ⟨3, ![148, 448, 1]⟩
abbrev S1x1x8 : Shape := ⟨3, ![1, 1, 8]⟩
abbrev S148x448x8 : Shape := ⟨3, ![148, 448, 8]⟩
abbrev S37x4x3584 : Shape := ⟨3, ![37, 4, 3584]⟩
abbrev S2048x3584 : Shape := ⟨2, ![2048, 3584]⟩
abbrev S7x4x2048 : Shape := ⟨3, ![7, 4, 2048]⟩
abbrev S2048x512 : Shape := ⟨2, ![2048, 512]⟩
abbrev S64x512 : Shape := ⟨2, ![64, 512]⟩
abbrev S1x4x512 : Shape := ⟨3, ![1, 4, 512]⟩
abbrev S52x16x512 : Shape := ⟨3, ![52, 16, 512]⟩
abbrev S52x512 : Shape := ⟨2, ![52, 512]⟩
abbrev S1x4x2048 : Shape := ⟨3, ![1, 4, 2048]⟩
abbrev S64x8x512 : Shape := ⟨3, ![64, 8, 512]⟩
abbrev S64x1x512 : Shape := ⟨3, ![64, 1, 512]⟩
abbrev S4x128x512 : Shape := ⟨3, ![4, 128, 512]⟩
abbrev S4x1x512 : Shape := ⟨3, ![4, 1, 512]⟩
abbrev S512x512 : Shape := ⟨2, ![512, 512]⟩
abbrev S832x512 : Shape := ⟨2, ![832, 512]⟩
abbrev S256x512 : Shape := ⟨2, ![256, 512]⟩
abbrev S16x256 : Shape := ⟨2, ![16, 256]⟩
abbrev S1 : Shape := ⟨1, ![1]⟩
abbrev S832x256 : Shape := ⟨2, ![832, 256]⟩
abbrev S256x832 : Shape := ⟨2, ![256, 832]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S256x52 : Shape := ⟨2, ![256, 52]⟩
abbrev S256 : Shape := ⟨1, ![256]⟩
abbrev S1x1x256 : Shape := ⟨3, ![1, 1, 256]⟩

abbrev nBuf : Space → Nat
  | .hbm => 29
  | .vmem => 23
  | .smem => 3
  | _ => 0

abbrev bufTy : (tb : Table) → Fin (tcTables nBuf tb) → BufTy
  | .hbm, ⟨0, _⟩ => ⟨S2048x18944, .bf16⟩
  | .hbm, ⟨1, _⟩ => ⟨S2368x3584, .i32⟩
  | .hbm, ⟨2, _⟩ => ⟨S148x448, .i32⟩
  | .hbm, ⟨3, _⟩ => ⟨S148x3584, .f16⟩
  | .hbm, ⟨4, _⟩ => ⟨S52x16x3584, .fp8e4m3⟩
  | .hbm, ⟨5, _⟩ => ⟨S52x3584, .f32⟩
  | .hbm, ⟨6, _⟩ => ⟨S52, .f32⟩
  | .hbm, ⟨7, _⟩ => ⟨S41, .i32⟩
  | .hbm, ⟨8, _⟩ => ⟨S40, .i32⟩
  | .hbm, ⟨9, _⟩ => ⟨S16x2048, .fp8e4m3⟩
  | .hbm, ⟨10, _⟩ => ⟨S1x2048, .f32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S148x448x1, .i32⟩
  | .hbm, ⟨16, _⟩ => ⟨S1x1x8, .i32⟩
  | .hbm, ⟨17, _⟩ => ⟨S148x448x8, .i32⟩
  | .hbm, ⟨18, _⟩ => ⟨S148x448x8, .i32⟩
  | .hbm, ⟨19, _⟩ => ⟨S148x448x8, .i32⟩
  | .hbm, ⟨20, _⟩ => ⟨S_, .i32⟩
  | .hbm, ⟨21, _⟩ => ⟨S148x448x8, .i32⟩
  | .hbm, ⟨22, _⟩ => ⟨S148x448x8, .i32⟩
  | .hbm, ⟨23, _⟩ => ⟨S37x4x3584, .i32⟩
  | .hbm, ⟨24, _⟩ => ⟨S37x4x3584, .f16⟩
  | .hbm, ⟨25, _⟩ => ⟨S2048x3584, .bf16⟩
  | .hbm, ⟨26, _⟩ => ⟨S2048x3584, .f32⟩
  | .hbm, ⟨27, _⟩ => ⟨S2048x3584, .fp8e4m3⟩
  | .hbm, ⟨28, _⟩ => ⟨S7x4x2048, .f32⟩
  | .local _ .vmem, ⟨0, _⟩ => ⟨S2048x512, .bf16⟩
  | .local _ .vmem, ⟨1, _⟩ => ⟨S2048x512, .bf16⟩
  | .local _ .vmem, ⟨2, _⟩ => ⟨S64x512, .i32⟩
  | .local _ .vmem, ⟨3, _⟩ => ⟨S64x512, .i32⟩
  | .local _ .vmem, ⟨4, _⟩ => ⟨S1x4x512, .i32⟩
  | .local _ .vmem, ⟨5, _⟩ => ⟨S1x4x512, .i32⟩
  | .local _ .vmem, ⟨6, _⟩ => ⟨S1x4x512, .f16⟩
  | .local _ .vmem, ⟨7, _⟩ => ⟨S1x4x512, .f16⟩
  | .local _ .vmem, ⟨8, _⟩ => ⟨S16x2048, .fp8e4m3⟩
  | .local _ .vmem, ⟨9, _⟩ => ⟨S1x2048, .f32⟩
  | .local _ .vmem, ⟨10, _⟩ => ⟨S52x16x512, .fp8e4m3⟩
  | .local _ .vmem, ⟨11, _⟩ => ⟨S52x16x512, .fp8e4m3⟩
  | .local _ .vmem, ⟨12, _⟩ => ⟨S52x512, .f32⟩
  | .local _ .vmem, ⟨13, _⟩ => ⟨S52x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .f32⟩
  | .local _ .vmem, ⟨17, _⟩ => ⟨S2048x512, .f32⟩
  | .local _ .vmem, ⟨18, _⟩ => ⟨S2048x512, .fp8e4m3⟩
  | .local _ .vmem, ⟨19, _⟩ => ⟨S2048x512, .fp8e4m3⟩
  | .local _ .vmem, ⟨20, _⟩ => ⟨S1x4x2048, .f32⟩
  | .local _ .vmem, ⟨21, _⟩ => ⟨S1x4x2048, .f32⟩
  | .local _ .vmem, ⟨22, _⟩ => ⟨S2048x512, .f32⟩
  | .local _ .smem, ⟨0, _⟩ => ⟨S41, .i32⟩
  | .local _ .smem, ⟨1, _⟩ => ⟨S40, .i32⟩
  | .local _ .smem, ⟨2, _⟩ => ⟨S52, .f32⟩
  | _, _ => ⟨S2048x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![7, 37], ![false, false]⟩

def k0_cond2 (i : grid0.Coords) : BitVec 1 :=
  let arg1 : BitVec 32 := BitVec.ofNat 32 (i 1).val
  let c36_i32 : BitVec 32 := 36#32
  let v35 : BitVec 1 := Scalar.cmpi .eq arg1 c36_i32
  let v36 : BitVec 32 := Scalar.extui v35
  let c0_i32_14 : BitVec 32 := 0#32
  let v37 : BitVec 1 := Scalar.cmpi .ne v36 c0_i32_14
  v37

@[reducible] def k0_t1_loop : Scf.Loop 32 :=
  let c0_i32_18 : BitVec 32 := 0#32
  let c8_i32 : BitVec 32 := 8#32
  let v40 : BitVec 32 := Scalar.addi c0_i32_18 c8_i32
  let c1_i32 : BitVec 32 := 1#32
  ⟨c0_i32_18, v40, c1_i32⟩
def k0_off1 (k0_t1 : Fin k0_t1_loop.trips) : Fin 2 → Nat :=
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v44 : Index := Scalar.indexCast v43
  let c0_22 : Index := 0#32
  ![v44.toNat, 0]
def k0_off2 (k0_t1 : Fin k0_t1_loop.trips) : Fin 2 → Nat :=
  let c0_24 : Index := 0#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v49 : Index := Scalar.indexCast v43
  ![0, v49.toNat]
def k0_off3 (k0_t1 : Fin k0_t1_loop.trips) : Fin 2 → Nat :=
  let c0_165 : Index := 0#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v669 : Index := Scalar.indexCast v43
  ![0, v669.toNat]
def k0_off4 (k0_t1 : Fin k0_t1_loop.trips) : Fin 2 → Nat :=
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1557 : Index := Scalar.indexCast v43
  let c0_467 : Index := 0#32
  ![v1557.toNat, 0]
def k0_off5 (k0_t1 : Fin k0_t1_loop.trips) : Fin 3 → Nat :=
  let c0_468 : Index := 0#32
  let c0_469 : Index := 0#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1563 : Index := Scalar.indexCast v43
  ![0, 0, v1563.toNat]
def k0_off6 (k0_t1 : Fin k0_t1_loop.trips) : Fin 2 → Nat :=
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1660 : Index := Scalar.indexCast v43
  let c128 : Index := 128#32
  ![v1660.toNat, 128]
def k0_off7 (k0_t1 : Fin k0_t1_loop.trips) : Fin 3 → Nat :=
  let c0_501 : Index := 0#32
  let c1_502 : Index := 1#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1666 : Index := Scalar.indexCast v43
  ![0, 1, v1666.toNat]
def k0_off8 (k0_t1 : Fin k0_t1_loop.trips) : Fin 2 → Nat :=
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1763 : Index := Scalar.indexCast v43
  let c256 : Index := 256#32
  ![v1763.toNat, 256]
def k0_off9 (k0_t1 : Fin k0_t1_loop.trips) : Fin 3 → Nat :=
  let c0_534 : Index := 0#32
  let c2_535 : Index := 2#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1769 : Index := Scalar.indexCast v43
  ![0, 2, v1769.toNat]
def k0_off10 (k0_t1 : Fin k0_t1_loop.trips) : Fin 2 → Nat :=
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1866 : Index := Scalar.indexCast v43
  let c384 : Index := 384#32
  ![v1866.toNat, 384]
def k0_off11 (k0_t1 : Fin k0_t1_loop.trips) : Fin 3 → Nat :=
  let c0_567 : Index := 0#32
  let c3_568 : Index := 3#32
  let c0_i32_21 : BitVec 32 := 0#32
  let c0_i32_18 : BitVec 32 := 0#32
  let c1_i32 : BitVec 32 := 1#32
  let arg18 : BitVec 32 := Scf.iv c0_i32_18 c1_i32 k0_t1
  let c1_i32_20 : BitVec 32 := 1#32
  let v41 : BitVec 32 := Scalar.muli arg18 c1_i32_20
  let v42 : BitVec 32 := Scalar.addi c0_i32_21 v41
  let c256_i32 : BitVec 32 := 256#32
  let v43 : BitVec 32 := Scalar.muli v42 c256_i32
  let v1872 : Index := Scalar.indexCast v43
  ![0, 3, v1872.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S41 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S40 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S52 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S52x16x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S52x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference.lean ====
abbrev S2048x18944 : Shape := ⟨2, ![2048, 18944]⟩
abbrev S2368x3584 : Shape := ⟨2, ![2368, 3584]⟩
abbrev S148x448 : Shape := ⟨2, ![148, 448]⟩
abbrev S148x3584 : Shape := ⟨2, ![148, 3584]⟩
abbrev S52x16x3584 : Shape := ⟨3, ![52, 16, 3584]⟩
abbrev S52x3584 : Shape := ⟨2, ![52, 3584]⟩
abbrev S52 : Shape := ⟨1, ![52]⟩
abbrev S41 : Shape := ⟨1, ![41]⟩
abbrev S40 : Shape := ⟨1, ![40]⟩
abbrev S16x2048 : Shape := ⟨2, ![16, 2048]⟩
abbrev S1x2048 : Shape := ⟨2, ![1, 2048]⟩
abbrev S8 : Shape := ⟨1, ![8]⟩
abbrev S_ : Shape := ⟨0, ![]⟩
abbrev S148x448x1 : Shape := ⟨3, ![148, 448, 1]⟩
abbrev S1x1x8 : Shape := ⟨3, ![1, 1, 8]⟩
abbrev S148x448x8 : Shape := ⟨3, ![148, 448, 8]⟩
abbrev S148x16x1x3584 : Shape := ⟨4, ![148, 16, 1, 3584]⟩
abbrev S1x1x8x1 : Shape := ⟨4, ![1, 1, 8, 1]⟩
abbrev S148x16x8x3584 : Shape := ⟨4, ![148, 16, 8, 3584]⟩
abbrev S148x128x3584 : Shape := ⟨3, ![148, 128, 3584]⟩
abbrev S2048 : Shape := ⟨1, ![2048]⟩
abbrev S41x1 : Shape := ⟨2, ![41, 1]⟩
abbrev S41x2048 : Shape := ⟨2, ![41, 2048]⟩
abbrev S2048x1 : Shape := ⟨2, ![2048, 1]⟩
abbrev S2048x16 : Shape := ⟨2, ![2048, 16]⟩
abbrev S2048x16x3584 : Shape := ⟨3, ![2048, 16, 3584]⟩
abbrev S2048x3584 : Shape := ⟨2, ![2048, 3584]⟩
abbrev S7x4x2048 : Shape := ⟨3, ![7, 4, 2048]⟩
abbrev S148x1x3584 : Shape := ⟨3, ![148, 1, 3584]⟩
abbrev S18944x3584 : Shape := ⟨2, ![18944, 3584]⟩
abbrev S2048x16x1 : Shape := ⟨3, ![2048, 16, 1]⟩
abbrev S2048x7x4x128 : Shape := ⟨4, ![2048, 7, 4, 128]⟩
abbrev S2048x7x4 : Shape := ⟨3, ![2048, 7, 4]⟩
abbrev S2048x7x4x1 : Shape := ⟨4, ![2048, 7, 4, 1]⟩

abbrev nBuf : Space → Nat
  | .hbm => 92
  | .vmem => 14
  | .smem => 0
  | _ => 0

abbrev bufTy : (tb : Table) → Fin (tcTables nBuf tb) → BufTy
  | .hbm, ⟨0, _⟩ => ⟨S2048x18944, .bf16⟩
  | .hbm, ⟨1, _⟩ => ⟨S2368x3584, .i32⟩
  | .hbm, ⟨2, _⟩ => ⟨S148x448, .i32⟩
  | .hbm, ⟨3, _⟩ => ⟨S148x3584, .f16⟩
  | .hbm, ⟨4, _⟩ => ⟨S52x16x3584, .fp8e4m3⟩
  | .hbm, ⟨5, _⟩ => ⟨S52x3584, .f32⟩
  | .hbm, ⟨6, _⟩ => ⟨S52, .f32⟩
  | .hbm, ⟨7, _⟩ => ⟨S41, .i32⟩
  | .hbm, ⟨8, _⟩ => ⟨S40, .i32⟩
  | .hbm, ⟨9, _⟩ => ⟨S16x2048, .fp8e4m3⟩
  | .hbm, ⟨10, _⟩ => ⟨S1x2048, .f32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S148x448x1, .i32⟩
  | .hbm, ⟨16, _⟩ => ⟨S1x1x8, .i32⟩
  | .hbm, ⟨17, _⟩ => ⟨S148x448x8, .i32⟩
  | .hbm, ⟨18, _⟩ => ⟨S148x448x8, .i32⟩
  | .hbm, ⟨19, _⟩ => ⟨S148x448x8, .i32⟩
  | .hbm, ⟨20, _⟩ => ⟨S_, .i32⟩
  | .hbm, ⟨21, _⟩ => ⟨S148x448x8, .i32⟩
  | .hbm, ⟨22, _⟩ => ⟨S148x448x8, .i32⟩
  | .hbm, ⟨23, _⟩ => ⟨S148x3584, .i32⟩
  | .hbm, ⟨24, _⟩ => ⟨S148x16x1x3584, .i32⟩
  | .hbm, ⟨25, _⟩ => ⟨S1x1x8x1, .i32⟩
  | .hbm, ⟨26, _⟩ => ⟨S148x16x8x3584, .i32⟩
  | .hbm, ⟨27, _⟩ => ⟨S148x16x8x3584, .i32⟩
  | .hbm, ⟨28, _⟩ => ⟨S148x16x8x3584, .i32⟩
  | .hbm, ⟨29, _⟩ => ⟨S_, .i32⟩
  | .hbm, ⟨30, _⟩ => ⟨S148x16x8x3584, .i32⟩
  | .hbm, ⟨31, _⟩ => ⟨S148x16x8x3584, .i32⟩
  | .hbm, ⟨32, _⟩ => ⟨S148x128x3584, .i32⟩
  | .hbm, ⟨33, _⟩ => ⟨S2048, .i32⟩
  | .hbm, ⟨34, _⟩ => ⟨S1x2048, .i32⟩
  | .hbm, ⟨35, _⟩ => ⟨S41x1, .i32⟩
  | .hbm, ⟨36, _⟩ => ⟨S41x2048, .i32⟩
  | .hbm, ⟨37, _⟩ => ⟨S41x2048, .i32⟩
  | .hbm, ⟨38, _⟩ => ⟨S41x2048, .i1⟩
  | .hbm, ⟨39, _⟩ => ⟨S41x2048, .i32⟩
  | .hbm, ⟨40, _⟩ => ⟨S_, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048x16, .fp8e4m3⟩
  | .hbm, ⟨59, _⟩ => ⟨S2048x1, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S2048x16x3584, .fp8e4m3⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x3584, .f32⟩
  | .hbm, ⟨78, _⟩ => ⟨S_, .i32⟩
  | .hbm, ⟨79, _⟩ => ⟨S2048, .i32⟩
  | .hbm, ⟨80, _⟩ => ⟨S2048, .i1⟩
  | .hbm, ⟨81, _⟩ => ⟨S_, .i32⟩
  | .hbm, ⟨82, _⟩ => ⟨S2048, .i32⟩
  | .hbm, ⟨83, _⟩ => ⟨S2048, .i32⟩
  | .hbm, ⟨84, _⟩ => ⟨S2048, .i32⟩
  | .hbm, ⟨85, _⟩ => ⟨S2048x1, .i32⟩
  | .hbm, ⟨86, _⟩ => ⟨S2048, .f32⟩
  | .hbm, ⟨87, _⟩ => ⟨S2048x1, .f32⟩
  | .hbm, ⟨88, _⟩ => ⟨S2048x3584, .bf16⟩
  | .hbm, ⟨89, _⟩ => ⟨S2048x3584, .f32⟩
  | .hbm, ⟨90, _⟩ => ⟨S2048x3584, .fp8e4m3⟩
  | .hbm, ⟨91, _⟩ => ⟨S7x4x2048, .f32⟩
  | .local _ .vmem, ⟨0, _⟩ => ⟨S2048x18944, .bf16⟩
  | .local _ .vmem, ⟨1, _⟩ => ⟨S148x128x3584, .i32⟩
  | .local _ .vmem, ⟨2, _⟩ => ⟨S148x3584, .i32⟩
  | .local _ .vmem, ⟨3, _⟩ => ⟨S148x3584, .f16⟩
  | .local _ .vmem, ⟨4, _⟩ => ⟨S2048x1, .i32⟩
  | .local _ .vmem, ⟨5, _⟩ => ⟨S2048x16, .fp8e4m3⟩
  | .local _ .vmem, ⟨6, _⟩ => ⟨S2048x1, .f32⟩
  | .local _ .vmem, ⟨7, _⟩ => ⟨S2048x16x3584, .fp8e4m3⟩
  | .local _ .vmem, ⟨8, _⟩ => ⟨S2048x3584, .f32⟩
  | .local _ .vmem, ⟨9, _⟩ => ⟨S2048x1, .f32⟩
  | .local _ .vmem, ⟨10, _⟩ => ⟨S2048x3584, .bf16⟩
  | .local _ .vmem, ⟨11, _⟩ => ⟨S2048x3584, .f32⟩
  | .local _ .vmem, ⟨12, _⟩ => ⟨S2048x3584, .fp8e4m3⟩
  | .local _ .vmem, ⟨13, _⟩ => ⟨S7x4x2048, .f32⟩
  | _, _ => ⟨S2048x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_c : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57_0 : Ref sig .tc := ⟨.hbm, 88, rfl⟩
abbrev main_v57_1 : Ref sig .tc := ⟨.hbm, 89, rfl⟩
abbrev main_v57_2 : Ref sig .tc := ⟨.hbm, 90, rfl⟩
abbrev main_v57_3 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S148x128x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S148x3584 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S148x3584 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x3584 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7x4x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.RefBlocks.lean ====
/-
  The reference's four results as its stored values over the argument arrays and the arrays the host made.
-/
module

public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Gen

open Cert.ReferenceIdeal.Value Idealize.ShloMosaic Idealize.ShloMosaic.TcCoe

variable (m : (l : Loc nD τ sig) → Buf (Elt Ideal) l)

/-- Every window's block index at the one point. -/
theorem idx : win0_0.index t0_0 = ![0, 0] ∧ win0_1.index t0_0 = ![0, 0, 0] ∧ win0_2.index t0_0 = ![0, 0]
    ∧ win0_3.index t0_0 = ![0, 0] ∧ win0_4.index t0_0 = ![0, 0] ∧ win0_5.index t0_0 = ![0, 0] ∧ win0_6.index t0_0 = ![0, 0]
    ∧ win0_7.index t0_0 = ![0, 0, 0] ∧ win0_8.index t0_0 = ![0, 0] ∧ win0_9.index t0_0 = ![0, 0] ∧ win0_10.index t0_0 = ![0, 0]
    ∧ win0_11.index t0_0 = ![0, 0] ∧ win0_12.index t0_0 = ![0, 0] ∧ win0_13.index t0_0 = ![0, 0, 0] :=
  (by decide +kernel)

/-- Window 0 is a whole array. -/
theorem iblk_x (c : Dev nD) : iblk m c 0 t0_0 = V m c main_arg0 := by
  blk_ext! [iblk, idx]

/-- Window 1 is a whole array. -/
theorem iblk_q (c : Dev nD) : iblk m c 1 t0_0 = V m c main_v18 := by
  blk_ext! [iblk, idx]

/-- Window 2 is a whole array. -/
theorem iblk_z (c : Dev nD) : iblk m c 2 t0_0 = V m c main_v10 := by
  blk_ext! [iblk, idx]

/-- Window 3 is a whole array. -/
theorem iblk_s (c : Dev nD) : iblk m c 3 t0_0 = V m c main_arg3 := by
  blk_ext! [iblk, idx]

/-- Window 4 is a whole array. -/
theorem iblk_ad (c : Dev nD) : iblk m c 4 t0_0 = V m c main_v32 := by
  blk_ext! [iblk, idx]

/-- Window 5 is a whole array. -/
theorem iblk_codes (c : Dev nD) : iblk m c 5 t0_0 = V m c main_v33 := by
  blk_ext! [iblk, idx]

/-- Window 6 is a whole array. -/
theorem iblk_us (c : Dev nD) : iblk m c 6 t0_0 = V m c main_v34 := by
  blk_ext! [iblk, idx]

/-- Window 7 is a whole array. -/
theorem iblk_b (c : Dev nD) : iblk m c 7 t0_0 = V m c main_v41 := by
  blk_ext! [iblk, idx]

/-- Window 8 is a whole array. -/
theorem iblk_bs (c : Dev nD) : iblk m c 8 t0_0 = V m c main_v48 := by
  blk_ext! [iblk, idx]

/-- Window 9 is a whole array. -/
theorem iblk_ls (c : Dev nD) : iblk m c 9 t0_0 = V m c main_v56 := by
  blk_ext! [iblk, idx]

/-- The base product. -/
def refBase (c : Dev nD) : FVec Ideal S2048x3584 .f32 := k0_pay3 (V m c main_arg3) (V m c main_v18) (V m c main_v10) (V m c main_arg0)

/-- The update's sum over the rank. -/
def refAcc (c : Dev nD) : FVec Ideal S2048x3584 .f32 := k0_pay4 (V m c main_v32) (V m c main_v33) (V m c main_v41)

/-- The codes' scales spread over the columns. -/
def refUs (c : Dev nD) : FVec Ideal S2048x3584 .f32 := k0_pay5 (V m c main_v34)

/-- Result 0 as a stored value. -/
theorem result0 (c : Dev nD) : (dats m 0 c).arrAt 10 cfg0.N = k0_pay9 (refBase m c) := by
  refine (dats m 0 c).arrAt_eq_of_after_last 10 t0_0 (by decide +kernel) _ fun j => ?_
  blk_simp
  rw [after0_10, iblk_x, iblk_q, iblk_z, iblk_s, iblk_ad, iblk_codes, iblk_us, iblk_b, iblk_bs, iblk_ls]
  unfold_out out0_10
  frame_out
  rfl

/-- Result 1 as a stored value. -/
theorem result1 (c : Dev nD) : (dats m 0 c).arrAt 11 cfg0.N = k0_pay6 (refAcc m c) (refUs m c) (V m c main_v48) (V m c main_v56) := by
  refine (dats m 0 c).arrAt_eq_of_after_last 11 t0_0 (by decide +kernel) _ fun j => ?_
  blk_simp
  rw [after0_11, iblk_x, iblk_q, iblk_z, iblk_s, iblk_ad, iblk_codes, iblk_us, iblk_b, iblk_bs, iblk_ls]
  unfold_out out0_11
  frame_out
  rfl

/-- Result 2 as a stored value. -/
theorem result2 (c : Dev nD) : (dats m 0 c).arrAt 12 cfg0.N = k0_pay1 (k0_pay10 (refBase m c) (refAcc m c) (refUs m c) (V m c main_v48) (V m c main_v56)) k0_pay11 := by
  refine (dats m 0 c).arrAt_eq_of_after_last 12 t0_0 (by decide +kernel) _ fun j => ?_
  blk_simp
  rw [after0_12, iblk_x, iblk_q, iblk_z, iblk_s, iblk_ad, iblk_codes, iblk_us, iblk_b, iblk_bs, iblk_ls]
  unfold_out out0_12
  frame_out
  rfl

/-- Result 3 as a stored value. -/
theorem result3 (c : Dev nD) : (dats m 0 c).arrAt 13 cfg0.N = k0_pay2 (k0_pay8 (refBase m c) (refAcc m c) (refUs m c) (V m c main_v48) (V m c main_v56)) := by
  refine (dats m 0 c).arrAt_eq_of_after_last 13 t0_0 (by decide +kernel) _ fun j => ?_
  blk_simp
  rw [after0_13, iblk_x, iblk_q, iblk_z, iblk_s, iblk_ad, iblk_codes, iblk_us, iblk_b, iblk_bs, iblk_ls]
  unfold_out out0_13
  frame_out
  rfl

end Cert.ReferenceIdeal.Gen
-- ==== Proof.Blocks.lean ====
/-
  What one trip of the kernel's row loop computes, as vector operations on 256 rows: the adapter of each row, the
  low-rank update of the rows, and the quantised sum of the base rows and the update, 128 columns at a time. The
  printed payloads spell the 40 segments and the 52 adapters out one after another; here each of them is a recursion.
-/
module

public import proofs.«01_k».proof.Proof.Gen.KernelIdeal.Loops
public import Idealize.ShloMosaic.Lib.ValueIdx

@[expose] public section

set_option maxRecDepth 16384

noncomputable section

namespace Cert.KernelIdeal.Gen

open Idealize.ShloMosaic Idealize.ShloMosaic.TcCoe Idealize.ShloMosaic.ValueIdx

variable {F : FTy → Type} [FloatOps F]

/-- Word `n` of the table of segment starts. -/
def startWord (st : Vec F S41 .i32) (n : Nat) : BitVec 32 := st (ix1 (⟨min n 40, by omega⟩ : Fin 41))

/-- Word `n` of the table of the segments' adapters. -/
def adapterWord (ad : Vec F S40 .i32) (n : Nat) : BitVec 32 := ad (ix1 (⟨min n 39, by omega⟩ : Fin 40))

/-- Entry `n` of the table of the adapters' scales. -/
def scaleEntry (ls : Vec F S52 .f32) (n : Nat) : F .f32 := ls (ix1 (⟨min n 51, by omega⟩ : Fin 52))

/-- The adapter of the row of number `t`, place by place, after the first `n` segments: the last segment that holds
    the row decides, `-1` where none does. -/
def rowAdapter (s : Shape) (t : IVec s 32) (st ad : Nat → BitVec 32) : Nat → IVec s 32
  | 0 => broadcast s 4294967295#32
  | n + 1 => select (andi (cmpi .sge t (broadcast s (st n))) (cmpi .slt t (broadcast s (st (n + 1))))) (broadcast s (ad n))
      (rowAdapter s t st ad n)

/-- The number of each row, rows along the lanes. -/
abbrev rowsAlongLanes (k : Fin k0_t1_loop.trips) : IVec S16x256 32 := k0_pay6 0#32 1#32 k

/-- The number of each row, rows along the sublanes. -/
abbrev rowsAlongSublanes (k : Fin k0_t1_loop.trips) : IVec S256x128 32 :=
  k0_pay79 (Scalar.addi 0#32 (Scalar.muli (Scf.iv 0#32 1#32 k) 1#32))

/-- The codes of the rows of adapter `a`, zero elsewhere. -/
def codesOf (ra : IVec S16x256 32) (codes : FVec F S16x256 .f32) (a : Nat) : FVec F S16x256 .f32 :=
  select (cmpi .eq ra (broadcast S16x256 (BitVec.ofNat 32 a))) codes (broadcast S16x256 (Scalar.ofBits .f32 0x00000000#32))

/-- 52 pieces of 16 rows fill 832 rows. -/
theorem concatenates_adapters : Shape.Concatenates (List.replicate 52 S16x256) S832x256 0 := by decide

/-- The rows' codes in the places of their adapters, times the second factors of all adapters. -/
def lowRank (ra : IVec S16x256 32) (codes : Vec F S16x256 .fp8e4m3) (b : Vec F S52x16x512 .fp8e4m3) : FVec F S256x512 .f32 :=
  matmul dot_S256x832_S832x512_S256x512_1_0_0_1_n_n none
    (truncf .fp8e4m3 (transpose S256x832 [1, 0]
      (concatenate S832x256 0 (List.ofFn fun a : Fin 52 => ⟨S16x256, codesOf ra (extf .f32 codes bitsLt_fp8e4m3_f32) a.val⟩)
        concatenates_adapters)
      transposes_S832x256_p1_0_S256x832) bitsLt_fp8e4m3_f32)
    (k0_pay1 b) (constant S256x512 .f32 0x00000000#32)

/-- The rows' column scales: the row of the table that the row's adapter names, by a product with a row of one one. -/
def columnScale (m : IVec S256x128 32) (bs : Vec F S52x512 .f32) : FVec F S256x512 .f32 :=
  matmul dot_S256x52_S52x512_S256x512_1_0_0_1_n_n (some .fp32)
    (extractStridedSlice S256x52 ![0, 0]
      (select (cmpi .eq m (iota .tc S256x128 32 [1] iota_S256x128_d1_w32)) (broadcast S256x128 (Scalar.ofBits .f32 0x3F800000#32))
        (broadcast S256x128 (Scalar.ofBits .f32 0x00000000#32))) slices_S256x128_o0_0_S256x52)
    bs (constant S256x512 .f32 0x00000000#32)

/-- The rows' adapter scale after the first `n` adapters. -/
def adapterScale (m : IVec S256x128 32) (ls : Nat → F .f32) : Nat → FVec F S256x128 .f32
  | 0 => broadcast S256x128 (Scalar.ofBits .f32 0x00000000#32)
  | n + 1 => select (cmpi .eq m (broadcast S256x128 (BitVec.ofNat 32 n))) (broadcast S256x128 (ls n)) (adapterScale m ls n)

/-- The low-rank update of the rows of trip `k`. -/
def updateRows (k : Fin k0_t1_loop.trips) (st ad : Nat → BitVec 32) (ls : Nat → F .f32) (codes : Vec F S16x256 .fp8e4m3)
    (us : Vec F S1x256 .f32) (b : Vec F S52x16x512 .fp8e4m3) (bs : Vec F S52x512 .f32) : FVec F S256x512 .f32 :=
  mulf (mulf (mulf (lowRank (rowAdapter S16x256 (rowsAlongLanes k) st ad 40) codes b)
      (broadcastTo S256x512 (k0_pay78 us) broadcasts_S256x1_S256x512))
      (columnScale (maxsi (rowAdapter S256x128 (rowsAlongSublanes k) st ad 40) (broadcast S256x128 0#32)) bs))
    (broadcastTo S256x512 (extractStridedSlice S256x1 ![0, 0]
      (adapterScale (maxsi (rowAdapter S256x128 (rowsAlongSublanes k) st ad 40) (broadcast S256x128 0#32)) ls 52)
      slices_S256x128_o0_0_S256x1) broadcasts_S256x1_S256x512)

/-- The largest magnitude of each row of 128 columns, divided by 448. -/
def magnitude (y : FVec F S256x128 .f32) : FVec F S256x1 .f32 :=
  mulf (shapeCast S256x1 (multiReduction .maximumf [1] S256 (absf y) 0xFF800000#32 reduces_S256x128_S256 (.inl rfl) rfl) shapeCasts_S256_S256x1)
    (broadcast S256x1 (Scalar.ofBits .f32 0x3B124925#32))

/-- One comparison of the search for the exponent. -/
def raiseRows (v : FVec F S256x1 .f32) (bit : BitVec 32) (ex : IVec S256x1 32) : IVec S256x1 32 :=
  select (cmpf .oge v (bitcastToFloat .f32 (shli (addi ex (broadcast S256x1 bit)) (broadcast S256x1 23#32))))
    (addi ex (broadcast S256x1 bit)) ex

/-- The exponents the kernel uses. -/
def exponentRows (v : FVec F S256x1 .f32) : IVec S256x1 32 :=
  select (cmpf .oge v (broadcast S256x1 (Scalar.ofBits .f32 0x7B800000#32))) (broadcast S256x1 255#32)
    (raiseRows v 1#32 (raiseRows v 2#32 (raiseRows v 4#32 (raiseRows v 8#32 (raiseRows v 16#32 (raiseRows v 32#32
      (raiseRows v 64#32 (raiseRows v 128#32 (broadcast S256x1 0#32)))))))))

/-- The rows whose scale is one. -/
def specialRows (v : FVec F S256x1 .f32) : IVec S256x1 1 :=
  ori (cmpi .eq (exponentRows v) (broadcast S256x1 0#32)) (cmpi .eq (exponentRows v) (broadcast S256x1 255#32))

/-- The scales of the rows. -/
def scaleRows (v : FVec F S256x1 .f32) : FVec F S256x1 .f32 :=
  bitcastToFloat .f32 (shli (select (specialRows v) (broadcast S256x1 127#32) (addi (exponentRows v) (broadcast S256x1 1#32)))
    (broadcast S256x1 23#32))

/-- The inverse scales of the rows. -/
def inverseRows (v : FVec F S256x1 .f32) : FVec F S256x1 .f32 :=
  bitcastToFloat .f32 (shli (select (specialRows v) (broadcast S256x1 127#32) (subi (broadcast S256x1 253#32) (exponentRows v)))
    (broadcast S256x1 23#32))

/-- The codes of 128 columns: scaled, clipped to the format's range. -/
def codesBlock (y : FVec F S256x128 .f32) : FVec F S256x128 .fp8e4m3 :=
  k0_pay2 y (broadcastTo S256x128 (inverseRows (magnitude y)) broadcasts_S256x1_S256x128)

/-- The scales of 128 columns, laid along the lanes. -/
def scalesBlock (y : FVec F S256x128 .f32) : FVec F S1x1x256 .f32 := k0_pay3 (scaleRows (magnitude y))

end Cert.KernelIdeal.Gen

end
-- ==== Proof.Pow2.lean ====
/-
  The power-of-two scale of a block whose largest magnitude, divided by 448, is `v`.

  The kernel finds the biased exponent of `v` by eight comparisons with powers of two (`expo`), and builds the
  scale and its inverse as words. The reference takes the logarithm to base two, rounded down. Over the extended
  reals the two agree at every `v`: this module is that fact, one number at a time.
-/
module

public import Idealize.ShloMosaic.PureOps.Ideal
public import Idealize.ShloMosaic.PureOps.Ideal.Laws

@[expose] public section

noncomputable section

namespace Cert.MultiLora

open Idealize.ShloMosaic

/-- One comparison of the kernel's search: raise the exponent found so far by `bit` when the power of two of the
    raised exponent is at most `v`. -/
def raise (v : EReal) (ex bit : BitVec 32) : BitVec 32 :=
  if Ideal.ofBits .f32 ((ex + bit) <<< 23) ≤ v then ex + bit else ex

/-- The biased exponent the eight comparisons find. -/
def expo (v : EReal) : BitVec 32 :=
  raise v (raise v (raise v (raise v (raise v (raise v (raise v (raise v 0#32 128#32) 64#32) 32#32) 16#32) 8#32) 4#32) 2#32) 1#32

/-- The exponent the kernel uses: at and above `2^120` the marker 255. -/
def kexp (v : EReal) : BitVec 32 := if Ideal.ofBits .f32 0x7B800000#32 ≤ v then 255#32 else expo v

/-- The exponents the kernel answers with scale one. -/
def special (v : EReal) : Prop := kexp v = 0#32 ∨ kexp v = 255#32

instance (v : EReal) : Decidable (special v) := inferInstanceAs (Decidable (_ ∨ _))

/-- The kernel's scale. -/
def kscale (v : EReal) : EReal := Ideal.ofBits .f32 ((if special v then 127#32 else kexp v + 1#32) <<< 23)

/-- The kernel's inverse scale. -/
def kinv (v : EReal) : EReal := Ideal.ofBits .f32 ((if special v then 127#32 else 253#32 - kexp v) <<< 23)

/-- The reference's exponent of the scale. -/
def rexp (v : EReal) : EReal :=
  if Ideal.ofBits .f32 0x00800000#32 ≤ v ∧ v < Ideal.ofBits .f32 0x7B800000#32 then
    Ideal.liftRound Int.floor (Ideal.div (Ideal.log v) (Ideal.log (Ideal.ofBits .f32 0x40000000#32))) + Ideal.ofBits .f32 0x3F800000#32
  else Ideal.ofBits .f32 0x00000000#32

/-- The word of the biased exponent `k` denotes `2^(k-127)`. -/
theorem ofBits_exponent (k : Nat) (h1 : 1 ≤ k) (h2 : k ≤ 254) :
    Ideal.ofBits .f32 (BitVec.ofNat 32 k <<< 23) = (((2 : ℝ) ^ ((k : Int) - 127) : ℝ) : EReal) := by
  have key : ∀ k : Fin 255,
      ((BitVec.ofNat 32 k.val <<< 23).extractLsb' (8 + 23) 1 == 1#1) = false
      ∧ ((BitVec.ofNat 32 k.val <<< 23).extractLsb' 23 8).toNat = k.val
      ∧ ((BitVec.ofNat 32 k.val <<< 23).extractLsb' 0 23).toNat = 0 := by decide
  obtain ⟨a, b, c⟩ := key ⟨k, by omega⟩
  have real : ((1 : ℝ) * ((2 ^ 23 + 0 : Nat) : ℝ) * (2 : ℝ) ^ ((k : Int) - (2 ^ (8 - 1) - 1) - (23 : Nat)))
      = (2 : ℝ) ^ ((k : Int) - 127) := by
    have h2' : (((2 ^ 23 + 0 : Nat)) : ℝ) = (2 : ℝ) ^ (23 : Int) := by norm_num
    rw [h2', one_mul, ← zpow_add₀ (by norm_num)]
    exact congrArg _ (by norm_num)
  show Ideal.ieee 8 23 _ = _
  unfold Ideal.ieee
  dsimp only
  rw [a, b, c, if_neg (by show ¬(k = 255); omega), if_neg (by show ¬(k = 0); omega), if_neg (by decide)]
  exact congrArg Real.toEReal real

/-- The word with exponent field all ones and no fraction is `+∞`. -/
theorem ofBits_inf : Ideal.ofBits .f32 (BitVec.ofNat 32 255 <<< 23) = ⊤ := by
  have key : (((BitVec.ofNat 32 255 <<< 23).extractLsb' (8 + 23) 1 == 1#1) = false)
      ∧ ((BitVec.ofNat 32 255 <<< 23).extractLsb' 23 8).toNat = 255
      ∧ ((BitVec.ofNat 32 255 <<< 23).extractLsb' 0 23).toNat = 0 := by decide
  obtain ⟨a, b, c⟩ := key
  show Ideal.ieee 8 23 (BitVec.ofNat 32 255 <<< 23) = ⊤
  unfold Ideal.ieee
  dsimp only
  rw [a, b, c, if_pos (by decide), if_pos rfl, if_neg (by decide)]

/-- What the search finds when the powers of two at most `v` are those up to exponent `E`: `E` itself. -/
theorem expo_eq (v : EReal) (E : Nat) (hE : E < 256)
    (h : ∀ k : Nat, 1 ≤ k → k ≤ 255 → (Ideal.ofBits .f32 (BitVec.ofNat 32 k <<< 23) ≤ v ↔ k ≤ E)) :
    expo v = BitVec.ofNat 32 E := by
  have step : ∀ a b : Nat, 1 ≤ a + b → a + b ≤ 255 →
      raise v (BitVec.ofNat 32 a) (BitVec.ofNat 32 b) = BitVec.ofNat 32 (if a + b ≤ E then a + b else a) := by
    intro a b h1 h2
    unfold raise
    rw [← BitVec.ofNat_add]
    by_cases hc : a + b ≤ E
    · rw [if_pos ((h (a + b) h1 h2).2 hc), if_pos hc]
    · rw [if_neg (fun hh => hc ((h (a + b) h1 h2).1 hh)), if_neg hc]
  have s := fun a b => step a b
  unfold expo
  rw [show (0#32 : BitVec 32) = BitVec.ofNat 32 0 from rfl, s 0 128 (by omega) (by omega)]
  set a1 := if 0 + 128 ≤ E then 0 + 128 else 0 with h1
  have b1 : a1 ≤ 128 := by rw [h1]; split <;> omega
  rw [s a1 64 (by omega) (by omega)]
  set a2 := if a1 + 64 ≤ E then a1 + 64 else a1 with h2
  have b2 : a2 ≤ 192 := by rw [h2]; split <;> omega
  rw [s a2 32 (by omega) (by omega)]
  set a3 := if a2 + 32 ≤ E then a2 + 32 else a2 with h3
  have b3 : a3 ≤ 224 := by rw [h3]; split <;> omega
  rw [s a3 16 (by omega) (by omega)]
  set a4 := if a3 + 16 ≤ E then a3 + 16 else a3 with h4
  have b4 : a4 ≤ 240 := by rw [h4]; split <;> omega
  rw [s a4 8 (by omega) (by omega)]
  set a5 := if a4 + 8 ≤ E then a4 + 8 else a4 with h5
  have b5 : a5 ≤ 248 := by rw [h5]; split <;> omega
  rw [s a5 4 (by omega) (by omega)]
  set a6 := if a5 + 4 ≤ E then a5 + 4 else a5 with h6
  have b6 : a6 ≤ 252 := by rw [h6]; split <;> omega
  rw [s a6 2 (by omega) (by omega)]
  set a7 := if a6 + 2 ≤ E then a6 + 2 else a6 with h7
  have b7 : a7 ≤ 254 := by rw [h7]; split <;> omega
  rw [s a7 1 (by omega) (by omega)]
  congr 1
  have c1 : a1 ≤ E ∧ E < a1 + 128 := by rw [h1]; split <;> omega
  have c2 : a2 ≤ E ∧ E < a2 + 64 := by rw [h2]; split <;> omega
  have c3 : a3 ≤ E ∧ E < a3 + 32 := by rw [h3]; split <;> omega
  have c4 : a4 ≤ E ∧ E < a4 + 16 := by rw [h4]; split <;> omega
  have c5 : a5 ≤ E ∧ E < a5 + 8 := by rw [h5]; split <;> omega
  have c6 : a6 ≤ E ∧ E < a6 + 4 := by rw [h6]; split <;> omega
  have c7 : a7 ≤ E ∧ E < a7 + 2 := by rw [h7]; split <;> omega
  split <;> omega

/-- The constant `2^-126`. -/
theorem ofBits_least : Ideal.ofBits .f32 0x00800000#32 = (((2 : ℝ) ^ (-126 : Int) : ℝ) : EReal) := by
  have := ofBits_exponent 1 (by omega) (by omega)
  exact this

/-- The constant `2^120`. -/
theorem ofBits_limit : Ideal.ofBits .f32 0x7B800000#32 = (((2 : ℝ) ^ (120 : Int) : ℝ) : EReal) := by
  have := ofBits_exponent 247 (by omega) (by omega)
  exact this

/-- The constant two. -/
theorem ofBits_two : Ideal.ofBits .f32 0x40000000#32 = ((2 : ℝ) : EReal) := by
  have := ofBits_exponent 128 (by omega) (by omega)
  rw [show (BitVec.ofNat 32 128 <<< 23) = 0x40000000#32 from rfl] at this
  rw [this]; norm_num

/-- The constant one. -/
theorem ofBits_one : Ideal.ofBits .f32 0x3F800000#32 = 1 := by
  have := ofBits_exponent 127 (by omega) (by omega)
  rw [show (BitVec.ofNat 32 127 <<< 23) = 0x3F800000#32 from rfl] at this
  rw [this]; norm_num

/-- The kernel's exponent where the reference takes none, below `2^-126` or from `2^120` on: a special one. -/
theorem special_of_out (v : EReal)
    (h : ¬(Ideal.ofBits .f32 0x00800000#32 ≤ v ∧ v < Ideal.ofBits .f32 0x7B800000#32)) : special v := by
  unfold special kexp
  by_cases h2 : Ideal.ofBits .f32 0x7B800000#32 ≤ v
  · right; rw [if_pos h2]
  · left
    rw [if_neg h2]
    have h1 : v < Ideal.ofBits .f32 0x00800000#32 := by
      by_contra hc
      exact h ⟨not_lt.1 hc, not_le.1 h2⟩
    rw [expo_eq v 0 (by omega)]
    intro k k1 k2
    constructor
    · intro hk
      exfalso
      have : Ideal.ofBits .f32 0x00800000#32 ≤ Ideal.ofBits .f32 (BitVec.ofNat 32 k <<< 23) := by
        by_cases h255 : k = 255
        · subst h255; rw [ofBits_inf]; exact le_top
        · rw [ofBits_least, ofBits_exponent k k1 (by omega), EReal.coe_le_coe_iff]
          exact zpow_le_zpow_right₀ (by norm_num) (by omega)
      exact absurd (lt_of_le_of_lt (this.trans hk) h1) (lt_irrefl _)
    · intro hk; omega

/-- Where the reference takes an exponent, `v` is a real number `r`, the kernel's exponent is `⌊log₂ r⌋ + 127`
    and the reference's is `⌊log₂ r⌋ + 1`. -/
theorem exponents (v : EReal)
    (h : Ideal.ofBits .f32 0x00800000#32 ≤ v ∧ v < Ideal.ofBits .f32 0x7B800000#32) :
    ∃ n : Int, -126 ≤ n ∧ n ≤ 119 ∧ kexp v = BitVec.ofNat 32 (n + 127).toNat ∧ rexp v = (((n + 1 : Int) : ℝ) : EReal) := by
  obtain ⟨h1, h2⟩ := h
  have hr : rexp v = Ideal.liftRound Int.floor (Ideal.div (Ideal.log v) (Ideal.log (Ideal.ofBits .f32 0x40000000#32)))
      + Ideal.ofBits .f32 0x3F800000#32 := if_pos ⟨h1, h2⟩
  have hk : kexp v = expo v := if_neg (not_le.2 h2)
  rw [hr, hk]
  rw [ofBits_least] at h1
  rw [ofBits_limit] at h2
  induction v using EReal.rec with
  | bot => exact absurd h1 (not_le.2 (EReal.bot_lt_coe _))
  | top => exact absurd h2 (not_lt.2 le_top)
  | coe r =>
    rw [EReal.coe_le_coe_iff] at h1
    rw [EReal.coe_lt_coe_iff] at h2
    have hpos : 0 < r := lt_of_lt_of_le (by positivity) h1
    have l2 : 0 < Real.log 2 := Real.log_pos (by norm_num)
    have key : ∀ k : Int, (2 : ℝ) ^ k ≤ r ↔ k ≤ ⌊Real.log r / Real.log 2⌋ := by
      intro k
      rw [Int.le_floor, le_div_iff₀ l2, ← Real.log_zpow, Real.log_le_log_iff (by positivity) hpos]
    have ha := (key (-126)).1 h1
    have hc : ⌊Real.log r / Real.log 2⌋ < 120 := by
      by_contra hh
      exact absurd ((key 120).2 (not_lt.1 hh)) (not_le.2 h2)
    refine ⟨⌊Real.log r / Real.log 2⌋, ha, by omega, ?_, ?_⟩
    · apply expo_eq _ _ (by omega)
      intro k k1 k2
      by_cases h255 : k = 255
      · subst h255
        rw [ofBits_inf]
        constructor
        · intro hh; exact absurd hh (not_le.2 (EReal.coe_lt_top r))
        · intro hh; omega
      · rw [ofBits_exponent k k1 (by omega), EReal.coe_le_coe_iff, key]
        omega
    · have e1 : Ideal.log (r : EReal) = (Real.log r : EReal) := by
        show (if r ≤ 0 then (⊥ : EReal) else (Real.log r : EReal)) = _
        rw [if_neg (not_le.2 hpos)]
      have e2 : Ideal.log ((2 : ℝ) : EReal) = (Real.log 2 : EReal) := by
        show (if (2 : ℝ) ≤ 0 then (⊥ : EReal) else (Real.log 2 : EReal)) = _
        rw [if_neg (by norm_num)]
      rw [ofBits_two, ofBits_one, e1, e2]
      have e3 : Ideal.div (Real.log r : EReal) (Real.log 2 : EReal) = ((Real.log r / Real.log 2 : ℝ) : EReal) := by
        unfold Ideal.div
        rw [if_neg (by exact_mod_cast l2.ne'), ← EReal.coe_inv, ← EReal.coe_mul, div_eq_mul_inv]
      rw [e3]
      show (((⌊Real.log r / Real.log 2⌋ : Int) : ℝ) : EReal) + 1 = _
      push_cast
      rfl

/-- `2^e` at an integer. -/
theorem exp2_int (n : Int) : Ideal.exp2 (((n : Int) : ℝ) : EReal) = (((2 : ℝ) ^ n : ℝ) : EReal) := by
  show (Real.rpow 2 ((n : Int) : ℝ) : EReal) = _
  congr 1
  exact Real.rpow_intCast 2 n

/-- The kernel's scale is two to the reference's exponent. -/
theorem kscale_eq (v : EReal) : kscale v = Ideal.exp2 (rexp v) := by
  by_cases h : Ideal.ofBits .f32 0x00800000#32 ≤ v ∧ v < Ideal.ofBits .f32 0x7B800000#32
  · obtain ⟨n, h1, h2, hk, hr⟩ := exponents v h
    have hs : ¬ special v := by
      unfold special
      rw [hk]
      have : ∀ m : Fin 256, 1 ≤ m.val → m.val ≤ 246 → ¬(BitVec.ofNat 32 m.val = 0#32 ∨ BitVec.ofNat 32 m.val = 255#32) := by decide
      exact this ⟨(n + 127).toNat, by omega⟩ (by show 1 ≤ (n + 127).toNat; omega) (by show (n + 127).toNat ≤ 246; omega)
    unfold kscale
    rw [if_neg hs, hr, exp2_int, hk, show (1#32 : BitVec 32) = BitVec.ofNat 32 1 from rfl, ← BitVec.ofNat_add,
      ofBits_exponent _ (by omega) (by omega)]
    congr 2
    omega
  · have hr : rexp v = Ideal.ofBits .f32 0x00000000#32 := if_neg h
    unfold kscale
    rw [if_pos (special_of_out v h), hr, Ideal.ofBits_zero_f32, show (127#32 : BitVec 32) <<< 23 = 0x3F800000#32 from rfl, ofBits_one]
    have := exp2_int 0
    simpa using this.symm

/-- The kernel's inverse scale is two to minus the reference's exponent. -/
theorem kinv_eq (v : EReal) : kinv v = Ideal.exp2 (Ideal.ofBits .f32 0x00000000#32 - rexp v) := by
  rw [Ideal.ofBits_zero_f32, zero_sub]
  by_cases h : Ideal.ofBits .f32 0x00800000#32 ≤ v ∧ v < Ideal.ofBits .f32 0x7B800000#32
  · obtain ⟨n, h1, h2, hk, hr⟩ := exponents v h
    have hs : ¬ special v := by
      unfold special
      rw [hk]
      have : ∀ m : Fin 256, 1 ≤ m.val → m.val ≤ 246 → ¬(BitVec.ofNat 32 m.val = 0#32 ∨ BitVec.ofNat 32 m.val = 255#32) := by decide
      exact this ⟨(n + 127).toNat, by omega⟩ (by show 1 ≤ (n + 127).toNat; omega) (by show (n + 127).toNat ≤ 246; omega)
    unfold kinv
    have e : (253#32 : BitVec 32) - BitVec.ofNat 32 (n + 127).toNat = BitVec.ofNat 32 (253 - (n + 127).toNat) := by
      have : ∀ m : Fin 254, (253#32 : BitVec 32) - BitVec.ofNat 32 m.val = BitVec.ofNat 32 (253 - m.val) := by decide
      exact this ⟨(n + 127).toNat, by omega⟩
    rw [if_neg hs, hr, ← EReal.coe_neg, ← Int.cast_neg, exp2_int, hk, e, ofBits_exponent _ (by omega) (by omega)]
    congr 2
    omega
  · have hr : rexp v = Ideal.ofBits .f32 0x00000000#32 := if_neg h
    unfold kinv
    rw [if_pos (special_of_out v h), hr, Ideal.ofBits_zero_f32, show (127#32 : BitVec 32) <<< 23 = 0x3F800000#32 from rfl, ofBits_one]
    have := exp2_int 0
    simpa using this.symm

end Cert.MultiLora

end
-- ==== Proof.Quant.lean ====
/-
  The quantiser of a row's 128 columns over the extended reals, read at an index.
-/
module

public import proofs.«01_k».proof.Proof.Blocks
public import proofs.«01_k».proof.Proof.Pow2
public import Idealize.ShloMosaic.Lib.Pointwise
public import Idealize.ShloMosaic.Lib.Pipeline.ValueKit

@[expose] public section

set_option maxRecDepth 16384

noncomputable section

namespace Cert.KernelIdeal.Gen

open Cert.MultiLora Idealize.ShloMosaic Idealize.ShloMosaic.TcCoe

/-- The largest magnitude of 128 numbers, divided by 448. -/
def magnitudeOf (y : Fin 128 → EReal) : EReal :=
  Finset.fold max (Ideal.ofBits .f32 0xFF800000#32) (fun c => FloatOps.absf (F := Ideal) (φ := .f32) (y c)) Finset.univ
    * Ideal.ofBits .f32 0x3B124925#32

/-- The magnitude at a row. -/
theorem magnitude_apply (y : FVec Ideal S256x128 .f32) (r : Fin 256) :
    magnitude (F := Ideal) y (ix2 r 0) = magnitudeOf fun c => y (ix2 r c) := by
  unfold magnitude
  pointwise
  rfl

/-- A selection on a decided proposition. -/
theorem select_decide {α : Type} (p : Prop) [Decidable p] (a b : α) :
    Scalar.select (BitVec.ofBool (decide p)) a b = if p then a else b := by
  by_cases h : p
  · rw [decide_eq_true h, if_pos h]; rfl
  · rw [decide_eq_false h, if_neg h]; rfl

/-- A shift by 23. -/
theorem shl_23 (x : BitVec 32) : IntOp.shli .vector x 23#32 = x <<< 23 := by
  unfold IntOp.shli
  rw [if_pos (by decide)]
  rfl

/-- The word shifted to the exponent's place, read as a float. -/
theorem exponentWord_apply (e : IVec S256x1 32) (i : S256x1.Idx) :
    bitcastToFloat (F := Ideal) .f32 (shli e (broadcast S256x1 23#32)) i = Ideal.ofBits .f32 (e i <<< 23) := by
  rw [← shl_23]
  exact bitcastToFloat_apply ..

/-- One step of the search at a row. -/
theorem raiseRows_apply (v : FVec Ideal S256x1 .f32) (bit : BitVec 32) (ex : IVec S256x1 32) (i : S256x1.Idx) :
    raiseRows (F := Ideal) v bit ex i = raise (v i) (ex i) bit := by
  unfold raiseRows raise
  have e := exponentWord_apply (addi ex (broadcast S256x1 bit)) i
  rw [show addi ex (broadcast S256x1 bit) i = ex i + bit from rfl] at e
  rw [← select_decide, ← e]
  rfl

/-- The exponent at a row. -/
theorem exponentRows_apply (v : FVec Ideal S256x1 .f32) (i : S256x1.Idx) : exponentRows (F := Ideal) v i = kexp (v i) := by
  unfold exponentRows kexp expo
  rw [← select_decide]
  refine congrArg (Scalar.select _ 255#32) ?_
  simp only [raiseRows_apply]
  rfl

/-- The rows of scale one. -/
theorem specialRows_apply (v : FVec Ideal S256x1 .f32) (i : S256x1.Idx) :
    specialRows (F := Ideal) v i = BitVec.ofBool (decide (special (v i))) := by
  show IntOp.ori (BitVec.ofBool (exponentRows (F := Ideal) v i == 0#32)) (BitVec.ofBool (exponentRows (F := Ideal) v i == 255#32)) = _
  rw [exponentRows_apply]
  by_cases hs : special (v i)
  · rw [decide_eq_true hs]
    rcases hs with h | h <;> rw [h] <;> rfl
  · rw [decide_eq_false hs, beq_eq_false_iff_ne.mpr fun h => hs (.inl h), beq_eq_false_iff_ne.mpr fun h => hs (.inr h)]
    rfl

/-- The scale at a row: a power of two. -/
theorem scaleRows_apply (v : FVec Ideal S256x1 .f32) (i : S256x1.Idx) : scaleRows (F := Ideal) v i = Ideal.exp2 (rexp (v i)) := by
  rw [← kscale_eq]
  unfold scaleRows kscale
  rw [exponentWord_apply, ← exponentRows_apply, ← select_decide, ← specialRows_apply]
  rfl

/-- The inverse scale at a row: the power of two of the negated exponent. -/
theorem inverseRows_apply (v : FVec Ideal S256x1 .f32) (i : S256x1.Idx) :
    inverseRows (F := Ideal) v i = Ideal.exp2 (Ideal.ofBits .f32 0x00000000#32 - rexp (v i)) := by
  rw [← kinv_eq]
  unfold inverseRows kinv
  rw [exponentWord_apply, ← exponentRows_apply, ← select_decide, ← specialRows_apply]
  rfl

/-- A number's code among 128: scaled and clipped to the format's range. -/
def codeOf (y : Fin 128 → EReal) (c : Fin 128) : EReal :=
  min (Ideal.ofBits .f32 0x43E00000#32) (max (Ideal.ofBits .f32 0xC3E00000#32)
    (y c * Ideal.exp2 (Ideal.ofBits .f32 0x00000000#32 - rexp (magnitudeOf y))))

/-- The codes of 128 columns at an index. -/
theorem codesBlock_apply (y : FVec Ideal S256x128 .f32) (r : Fin 256) (c : Fin 128) :
    codesBlock (F := Ideal) y (ix2 r c) = codeOf (fun c => y (ix2 r c)) c := by
  unfold codesBlock
  unfold_payloads
  pointwise
  rw [inverseRows_apply, magnitude_apply]
  rfl

/-- The scales of 128 columns at a row. -/
theorem scalesBlock_apply (y : FVec Ideal S256x128 .f32) (r : Fin 256)  :
    scalesBlock (F := Ideal) y (ix3 0 0 r) = Ideal.exp2 (rexp (magnitudeOf fun c => y (ix2 r c))) := by
  unfold scalesBlock
  unfold_payloads
  pointwise
  rw [scaleRows_apply, magnitude_apply]

end Cert.KernelIdeal.Gen
-- ==== Proof.Bits.lean ====
/-
  Four-bit fields of packed words: a logical and an arithmetic shift leave the same field.
-/
module

public import proofs.«01_k».proof.KernelIdeal
public import Idealize.ShloMosaic.Lib.Pointwise

@[expose] public section

noncomputable section

namespace Cert.MultiLora

open Idealize.ShloMosaic

/-- Field `p` of the eight four-bit fields of a word, by an arithmetic shift. -/
def field (w : BitVec 32) (p : ℕ) : BitVec 32 :=
  IntOp.andi (IntOp.shrsi .host w (IntOp.muli 4#32 (BitVec.ofNat 32 p))) 15#32

/-- The distance of field `p`. -/
theorem distance (p : ℕ) (h : p < 8) : (IntOp.muli 4#32 (BitVec.ofNat 32 p)).toNat = 4 * p := by
  show (4#32 * BitVec.ofNat 32 p).toNat = _
  rw [BitVec.toNat_mul, BitVec.toNat_ofNat, BitVec.toNat_ofNat]
  omega

/-- A logical shift leaves the same field as the arithmetic one. -/
theorem logical_field (w : BitVec 32) (p : ℕ) (h : p < 8) :
    IntOp.andi (IntOp.shrui .vector w (IntOp.muli 4#32 (BitVec.ofNat 32 p))) 15#32 = field w p := by
  unfold field IntOp.shrui IntOp.shrsi
  rw [if_pos (by rw [distance p h]; omega), if_pos (by rw [distance p h]; omega)]
  show (w >>> (IntOp.muli 4#32 (BitVec.ofNat 32 p)).toNat) &&& 15#32
    = (w.sshiftRight (IntOp.muli 4#32 (BitVec.ofNat 32 p)).toNat) &&& 15#32
  rw [distance p h]
  refine BitVec.eq_of_getLsbD_eq fun i hi => ?_
  rw [BitVec.getLsbD_and, BitVec.getLsbD_and]
  by_cases h4 : i < 4
  · congr 1
    rw [BitVec.getLsbD_ushiftRight, BitVec.getLsbD_sshiftRight, if_pos (by omega)]
    simp only [decide_eq_false (show ¬ 32 ≤ i by omega), Bool.not_false, Bool.true_and]
  · have e : (15#32).getLsbD i = false := by
      rw [show (15#32 : BitVec 32) = (15#4).setWidth 32 from rfl, BitVec.getLsbD_setWidth,
        BitVec.getLsbD_of_ge (15#4) i (by omega), Bool.and_false]
    rw [e, Bool.and_false, Bool.and_false]

end Cert.MultiLora
-- ==== Proof.Spec.lean ====
/-
  The base product as a sum over the shared axis, in terms of the arguments' arrays.
-/
module

public import proofs.«01_k».proof.Proof.Bits

@[expose] public section

noncomputable section

namespace Cert.MultiLora

open Cert.KernelIdeal Idealize.ShloMosaic

/-- An unpacked weight: the field less the zero point, times the group's scale. -/
def weight (q z : BitVec 32) (s : EReal) : EReal := FloatOps.sitofp (F := Ideal) .f32 (IntOp.subi q z) * s

/-- Place `D` of the shared axis of the base product at row `r` and column `n`. -/
def baseTerm (x : Vec Ideal S2048x18944 .bf16) (w : Vec Ideal S2368x3584 .i32) (z : Vec Ideal S148x448 .i32)
    (s : Vec Ideal S148x3584 .f16) (r : Fin 2048) (n : Fin 3584) (D : ℕ) : EReal :=
  if h : D < 18944 then
    x (ix2 r (⟨D, h⟩ : Fin 18944))
      * weight (field (w (ix2 (⟨D / 8, by omega⟩ : Fin 2368) n)) (D % 8))
          (field (z (ix2 (⟨D / 128, by omega⟩ : Fin 148) (⟨n.val / 8, by omega⟩ : Fin 448))) (n.val % 8))
          (s (ix2 (⟨D / 128, by omega⟩ : Fin 148) n))
  else 0

/-- The base product at row `r` and column `n`. -/
def base (x : Vec Ideal S2048x18944 .bf16) (w : Vec Ideal S2368x3584 .i32) (z : Vec Ideal S148x448 .i32)
    (s : Vec Ideal S148x3584 .f16) (r : Fin 2048) (n : Fin 3584) : EReal :=
  ∑ D ∈ Finset.range 18944, baseTerm x w z s r n D

end Cert.MultiLora
-- ==== Proof.RefStored.lean ====
/-
  The values the reference stores, read at an index.
-/
module

public import proofs.«01_k».proof.Proof.Gen.ReferenceIdeal.Value
public import proofs.«01_k».proof.Proof.Quant
public import proofs.«01_k».proof.Proof.Spec

@[expose] public section

set_option maxRecDepth 16384

noncomputable section

namespace Cert.ReferenceIdeal.Gen

open Cert.MultiLora Cert.KernelIdeal.Gen Cert.ReferenceIdeal.Value Idealize.ShloMosaic Idealize.ShloMosaic.TcCoe

/-- The product at an index. -/
theorem product_apply (s : Vec Ideal S148x3584 .f16) (q : Vec Ideal S148x128x3584 .i32) (z : Vec Ideal S148x3584 .i32)
    (x : Vec Ideal S2048x18944 .bf16) (r : Fin 2048) (n : Fin 3584) : k0_pay3 (F := Ideal) s q z x (ix2 r n)
      = ∑ D : Fin 18944, x (ix2 r D) * weight (q (ix3 (⟨D.val / 128, by omega⟩ : Fin 148) (⟨D.val % 128, by omega⟩ : Fin 128) n))
          (z (ix2 (⟨D.val / 128, by omega⟩ : Fin 148) n)) (s (ix2 (⟨D.val / 128, by omega⟩ : Fin 148) n)) := by
  unfold_payloads
  pointwise
  rfl

/-- The update at an index. -/
theorem delta_apply (a : Vec Ideal S2048x1 .i32) (codes : Vec Ideal S2048x16 .fp8e4m3) (b : Vec Ideal S2048x16x3584 .fp8e4m3)
    (us : Vec Ideal S2048x1 .f32) (bs : Vec Ideal S2048x3584 .f32) (ls : Vec Ideal S2048x1 .f32) (r : Fin 2048) (n : Fin 3584) :
    k0_pay6 (F := Ideal) (k0_pay4 a codes b) (k0_pay5 us) bs ls (ix2 r n)
      = (((∑ k : Fin 16, Scalar.select (IntOp.cmpi .sge (a (ix2 r 0)) 0#32) (codes (ix2 r k)) 0 * b (ix3 r k n)) * us (ix2 r 0))
          * bs (ix2 r n)) * ls (ix2 r 0) := by
  unfold_payloads
  pointwise

/-- The quantised array at an index. -/
theorem tiles_apply (p a u b : FVec Ideal S2048x3584 .f32) (ls : Vec Ideal S2048x1 .f32) (t : Fin 2048) (J : Fin 7) (g : Fin 4) (x : Fin 128)
    (n : Fin 3584) (hn : n.val = 512 * J.val + 128 * g.val + x.val) :
    k0_pay7 (F := Ideal) p a u b ls (ix4 t J g x) = p (ix2 t n) + k0_pay6 a u b ls (ix2 t n) := by
  unfold k0_pay7
  generalize k0_pay6 a u b ls = d
  pointwise
  have e : ∀ h, (⟨J.val * 512 + g.val * 128 + x.val, h⟩ : Fin 3584) = n := fun h => Fin.ext (by dsimp only; omega)
  rw [e]

/-- The greatest entry of a tile at an index. -/
theorem greatest_apply (y : FVec Ideal S2048x7x4x128 .f32) (t : Fin 2048) (J : Fin 7) (g : Fin 4) :
    multiReduction .maximumf [3] S2048x7x4 y 0xFF800000#32 reduces_S2048x7x4x128_S2048x7x4 (.inl rfl) rfl (ix3 t J g)
      = Finset.fold max (Ideal.ofBits .f32 0xFF800000#32) (fun x => y (ix4 t J g x)) Finset.univ := by
  pointwise

/-- A number for each tile, spread over the tile, at an index. -/
theorem spread_apply (e : FVec Ideal S2048x7x4 .f32) (t : Fin 2048) (J : Fin 7) (g : Fin 4) (x : Fin 128) :
    broadcastTo S2048x7x4x128 (shapeCast S2048x7x4x1 e shapeCasts_S2048x7x4_S2048x7x4x1) broadcasts_S2048x7x4x1_S2048x7x4x128 (ix4 t J g x)
      = e (ix3 t J g) := by
  pointwise

/-- The tiles in place, at an index. -/
theorem flat_apply {α : Type} (y : S2048x7x4x128.Idx → α) (t : Fin 2048) (J : Fin 7) (g : Fin 4) (x : Fin 128) (n : Fin 3584)
    (hn : n.val = 512 * J.val + 128 * g.val + x.val) :
    shapeCast S2048x3584 y shapeCasts_S2048x7x4x128_S2048x3584 (ix2 t n) = y (ix4 t J g x) := by
  pointwise
  congr 1
  have := x.isLt; have := g.isLt
  congr 1
  · exact Fin.ext (by dsimp only; omega)
  · exact Fin.ext (by dsimp only; omega)
  · exact Fin.ext (by dsimp only; omega)

/-- The exponent of a tile, from its greatest magnitude. -/
theorem exponent_of (M : FVec Ideal S2048x7x4 .f32) (i : S2048x7x4.Idx) :
    select (andi (cmpf .oge (mulf M (broadcast S2048x7x4 (Scalar.ofBits (F := Ideal) .f32 0x3B124925#32))) (broadcast S2048x7x4 (Scalar.ofBits (F := Ideal) .f32 0x00800000#32)))
          (cmpf .olt (mulf M (broadcast S2048x7x4 (Scalar.ofBits (F := Ideal) .f32 0x3B124925#32))) (broadcast S2048x7x4 (Scalar.ofBits (F := Ideal) .f32 0x7B800000#32))))
        (addf (floor (divf (log (mulf M (broadcast S2048x7x4 (Scalar.ofBits (F := Ideal) .f32 0x3B124925#32))))
            (broadcast S2048x7x4 (Scalar.log (Scalar.ofBits (F := Ideal) .f32 0x40000000#32))))) (broadcast S2048x7x4 (Scalar.ofBits (F := Ideal) .f32 0x3F800000#32)))
        (broadcast S2048x7x4 (Scalar.ofBits (F := Ideal) .f32 0x00000000#32)) i
      = rexp (M i * Ideal.ofBits .f32 0x3B124925#32) := by
  unfold rexp
  rw [← select_decide, Bool.decide_and, ← BitVec.ofBool_and_ofBool]
  rfl

/-- The exponent at an index. -/
theorem exponent_apply (p a u b : FVec Ideal S2048x3584 .f32) (ls : Vec Ideal S2048x1 .f32) (t : Fin 2048) (J : Fin 7) (g : Fin 4) :
    k0_pay8 (F := Ideal) p a u b ls (ix3 t J g) = rexp (magnitudeOf fun x => k0_pay7 p a u b ls (ix4 t J g x)) := by
  unfold k0_pay8
  generalize k0_pay7 p a u b ls = y
  dsimp only
  rw [exponent_of, greatest_apply]
  rfl

/-- The scales at an index. -/
theorem scales_apply (e : FVec Ideal S2048x7x4 .f32) (t : Fin 2048) (J : Fin 7) (g : Fin 4) :
    k0_pay2 (F := Ideal) e (ix3 J g t) = Ideal.exp2 (e (ix3 t J g)) := by
  unfold_payloads
  pointwise
  rfl

/-- The clipped tiles in place, at an index. -/
theorem clip_apply (y : FVec Ideal S2048x7x4x128 .f32) (f : FVec Ideal S2048x7x4 .f32) (t : Fin 2048) (n : Fin 3584) (J : Fin 7) (g : Fin 4)
    (x : Fin 128) (hn : n.val = 512 * J.val + 128 * g.val + x.val) :
    k0_pay1 (F := Ideal) (maximumf (broadcast S2048x7x4x128 (Scalar.ofBits (F := Ideal) .f32 0xC3E00000#32)) (mulf y
        (broadcastTo S2048x7x4x128 (shapeCast S2048x7x4x1 f shapeCasts_S2048x7x4_S2048x7x4x1) broadcasts_S2048x7x4x1_S2048x7x4x128)))
        (broadcast S2048x7x4x128 (Scalar.ofBits (F := Ideal) .f32 0x43E00000#32)) (ix2 t n)
      = min (Ideal.ofBits .f32 0x43E00000#32) (max (Ideal.ofBits .f32 0xC3E00000#32) (y (ix4 t J g x) * f (ix3 t J g))) := by
  unfold k0_pay1
  rw [flat_apply _ t J g x n hn]
  refine (?_ : _ = min (Ideal.ofBits .f32 0x43E00000#32) (max (Ideal.ofBits .f32 0xC3E00000#32) (y (ix4 t J g x) *
   broadcastTo S2048x7x4x128 (shapeCast S2048x7x4x1 f shapeCasts_S2048x7x4_S2048x7x4x1) broadcasts_S2048x7x4x1_S2048x7x4x128 (ix4 t J g x)))).trans ?_
  · rfl
  · rw [spread_apply]

/-- The power of two of a number's negation at a place. -/
theorem inverse_apply (e : FVec Ideal S2048x7x4 .f32) (i : S2048x7x4.Idx) :
    exp2 (subf (broadcast S2048x7x4 (Scalar.ofBits (F := Ideal) .f32 0x00000000#32)) e) i = Ideal.exp2 (Ideal.ofBits .f32 0x00000000#32 - e i) := rfl

/-- The codes at an index. -/
theorem codes_apply (p a u b : FVec Ideal S2048x3584 .f32) (ls : Vec Ideal S2048x1 .f32) (t : Fin 2048) (n : Fin 3584) (J : Fin 7) (g : Fin 4) (x : Fin 128)
    (hn : n.val = 512 * J.val + 128 * g.val + x.val) :
    k0_pay1 (F := Ideal) (k0_pay10 p a u b ls) k0_pay11 (ix2 t n)
      = codeOf (fun x => k0_pay7 p a u b ls (ix4 t J g x)) x := by
  unfold codeOf
  rw [← exponent_apply p a u b ls t J g]
  unfold k0_pay10 k0_pay11
  dsimp only
  generalize k0_pay7 p a u b ls = y
  generalize k0_pay8 p a u b ls = e
  refine (clip_apply y (exp2 (subf (broadcast S2048x7x4 (Scalar.ofBits (F := Ideal) .f32 0x00000000#32)) e)) t n J g x hn).trans ?_
  rw [inverse_apply]
end Cert.ReferenceIdeal.Gen
-- ==== Proof.RefHost.lean ====
/-
  The arrays the reference's host operations make, as functions of the arguments' arrays.
-/
module

public import proofs.«01_k».proof.Proof.Gen.ReferenceIdeal.Value
public import Idealize.ShloMosaic.Lib.StableHlo.RunRead
public import Idealize.ShloMosaic.Lib.Pointwise
public import Idealize.ShloMosaic.Lib.Pipeline.ValueKit

@[expose] public section

set_option maxRecDepth 1000000

noncomputable section

namespace Cert.ReferenceIdeal.Gen

open Cert.ReferenceIdeal.Value Idealize.ShloMosaic Idealize.ShloMosaic.TcCoe
open Facts₀ Facts

/-- The shifts of a packed word's eight fields. -/
def shifts : IVec S8 32 := muli (broadcastInDim S8 ![] bcast_S_S8 (constantI S_ 32 4#32)) (iotaInDim S8 32 0)

/-- The zero points unpacked. -/
def zeros (z : IVec S148x448 32) : IVec S148x3584 32 :=
  shapeCast S148x3584
    (andi (Host.shrsi (broadcastInDim S148x448x8 ![0, 1, 2] bcast_S148x448x1_S148x448x8_0_1_2
          (broadcastInDim S148x448x1 ![0, 1] bcast_S148x448_S148x448x1_0_1 z))
        (broadcastInDim S148x448x8 ![0, 1, 2] bcast_S1x1x8_S148x448x8_0_1_2 (broadcastInDim S1x1x8 ![2] bcast_S8_S1x1x8_2 shifts)))
      (broadcastInDim S148x448x8 ![] bcast_S_S148x448x8 (constantI S_ 32 15#32)))
    shapeCasts_S148x448x8_S148x3584

/-- The weights unpacked. -/
def fields (w : IVec S2368x3584 32) : IVec S148x128x3584 32 :=
  shapeCast S148x128x3584
    (andi (Host.shrsi (broadcastInDim S148x16x8x3584 ![0, 1, 2, 3] bcast_S148x16x1x3584_S148x16x8x3584_0_1_2_3
          (shapeCast S148x16x1x3584 w shapeCasts_S2368x3584_S148x16x1x3584))
        (broadcastInDim S148x16x8x3584 ![0, 1, 2, 3] bcast_S1x1x8x1_S148x16x8x3584_0_1_2_3
          (broadcastInDim S1x1x8x1 ![2] bcast_S8_S1x1x8x1_2 shifts)))
      (broadcastInDim S148x16x8x3584 ![] bcast_S_S148x16x8x3584 (constantI S_ 32 15#32)))
    shapeCasts_S148x16x8x3584_S148x128x3584

/-- One word in every row. -/
def everyRow (k : BitVec 32) : IVec S2048 32 := broadcastInDim S2048 ![] bcast_S_S2048 (constantI S_ 32 k)

/-- Whether a start is not after a row. -/
def reached (st : IVec S41 32) : IVec S41x2048 1 :=
  cmpi .sle (broadcastInDim S41x2048 ![0, 1] bcast_S41x1_S41x2048_0_1 (broadcastInDim S41x1 ![0] bcast_S41_S41x1_0 st))
    (broadcastInDim S41x2048 ![0, 1] bcast_S1x2048_S41x2048_0_1 (broadcastInDim S1x2048 ![1] bcast_S2048_S1x2048_1 (iotaInDim S2048 32 0)))

/-- The number of starts not after each row. -/
def starts (st : IVec S41 32) : IVec S2048 32 :=
  Host.reduce IntOp.addi (extui 32 (reached st) natLt_1_32) (constantI S_ 32 0#32) reducesTo_S41x2048_S2048_d0 h_S_

/-- An index counted from the end where it is negative. -/
def wrap (i : IVec S2048 32) (k : BitVec 32) : IVec S2048x1 32 :=
  broadcastInDim S2048x1 ![0] bcast_S2048_S2048x1_0 (select (cmpi .slt i (everyRow 0#32)) (addi i (everyRow k)) i)

/-- The adapter word of each row. -/
def adapters (st : IVec S41 32) (ad : IVec S40 32) : IVec S2048 32 :=
  Host.gather gather_S40_S2048x1_S2048_n_0_n_n_0_1_1 ad (wrap (subi (starts st) (everyRow 1#32)) 40#32)

/-- The adapter each row reads. -/
def picks (st : IVec S41 32) (ad : IVec S40 32) : IVec S2048x1 32 :=
  wrap (maxsi (adapters st ad) (everyRow 0#32)) 52#32

variable (m : (l : Loc nD τ sig) → Buf (Elt Ideal) l)

theorem V_zeros (c : Dev nD) : (V m c main_v10 : IVec S148x3584 32) = zeros (m ((c : Thread nD τ).loc main_arg2)) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

theorem V_fields (c : Dev nD) : (V m c main_v18 : IVec S148x128x3584 32) = fields (m ((c : Thread nD τ).loc main_arg1)) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

theorem V_adapters (c : Dev nD) : (V m c main_v32 : IVec S2048x1 32)
    = broadcastInDim S2048x1 ![0] bcast_S2048_S2048x1_0 (adapters (m ((c : Thread nD τ).loc main_arg7)) (m ((c : Thread nD τ).loc main_arg8))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

theorem V_codes (c : Dev nD) : (V m c main_v33 : Vec Ideal S2048x16 .fp8e4m3)
    = transpose S2048x16 [1, 0] (m ((c : Thread nD τ).loc main_arg9)) transposes_S16x2048_S2048x16_1_0 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  try rfl

theorem V_us (c : Dev nD) : (V m c main_v34 : Vec Ideal S2048x1 .f32)
    = transpose S2048x1 [1, 0] (m ((c : Thread nD τ).loc main_arg10)) transposes_S1x2048_S2048x1_1_0 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  try rfl

theorem V_b (c : Dev nD) : (V m c main_v41 : Vec Ideal S2048x16x3584 .fp8e4m3)
    = Host.gather gather_S52x16x3584_S2048x1_S2048x16x3584_12_0_n_n_0_1_1163584 (m ((c : Thread nD τ).loc main_arg4))
        (picks (m ((c : Thread nD τ).loc main_arg7)) (m ((c : Thread nD τ).loc main_arg8))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

theorem V_bs (c : Dev nD) : (V m c main_v48 : Vec Ideal S2048x3584 .f32)
    = Host.gather gather_S52x3584_S2048x1_S2048x3584_1_0_n_n_0_1_13584 (m ((c : Thread nD τ).loc main_arg5))
        (picks (m ((c : Thread nD τ).loc main_arg7)) (m ((c : Thread nD τ).loc main_arg8))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

theorem V_ls (c : Dev nD) : (V m c main_v56 : Vec Ideal S2048x1 .f32)
    = broadcastInDim S2048x1 ![0] bcast_S2048_S2048x1_0
        (Host.gather gather_S52_S2048x1_S2048_n_0_n_n_0_1_1 (m ((c : Thread nD τ).loc main_arg6))
          (picks (m ((c : Thread nD τ).loc main_arg7)) (m ((c : Thread nD τ).loc main_arg8)))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_reads_simp
  rfl

end Cert.ReferenceIdeal.Gen
-- ==== Proof.RefGathers.lean ====
/-
  The reference's gathers, read at an index.
-/
module

public import proofs.«01_k».proof.Proof.Gen.ReferenceIdeal
public import Idealize.ShloMosaic.Lib.StableHlo.Predicate
public import Idealize.ShloMosaic.Lib.Pointwise

@[expose] public section

set_option maxRecDepth 16384

noncomputable section

namespace Cert.ReferenceIdeal.Gen

open Idealize.ShloMosaic

/-- The factor of the adapter a row's word names. -/
theorem gather_b {α : Type} (x : S52x16x3584.Idx → α) (idx : IVec S2048x1 32) (t : Fin 2048) (a : Fin 16) (n : Fin 3584) :
    Host.gather gather_S52x16x3584_S2048x1_S2048x16x3584_12_0_n_n_0_1_1163584 x idx (ix3 t a n)
      = x (ix3 (⟨min (idx (ix2 t 0)).toInt.toNat 51, by omega⟩ : Fin 52) a n) := by
  unfold Host.gather
  refine congrArg x (funext fun b => Fin.ext ?_)
  match b with
  | ⟨0, _⟩ =>
    refine (?_ : _ = min (idx (GatherDims.siIdx gather_S52x16x3584_S2048x1_S2048x16x3584_12_0_n_n_0_1_1163584 (ix3 t a n) ⟨0, by decide⟩)).toInt.toNat 51).trans ?_
    · rfl
    · refine congrArg (fun i => min (idx i).toInt.toNat 51) (funext fun b' => ?_)
      match b' with
      | ⟨0, _⟩ => rfl
      | ⟨1, _⟩ => rfl
  | ⟨1, _⟩ => exact Nat.zero_add a.val
  | ⟨2, _⟩ => exact Nat.zero_add n.val

/-- The factor's scales of the adapter a row's word names. -/
theorem gather_bs {α : Type} (x : S52x3584.Idx → α) (idx : IVec S2048x1 32) (t : Fin 2048) (n : Fin 3584) :
    Host.gather gather_S52x3584_S2048x1_S2048x3584_1_0_n_n_0_1_13584 x idx (ix2 t n)
      = x (ix2 (⟨min (idx (ix2 t 0)).toInt.toNat 51, by omega⟩ : Fin 52) n) := by
  unfold Host.gather
  refine congrArg x (funext fun b => Fin.ext ?_)
  match b with
  | ⟨0, _⟩ =>
    refine (?_ : _ = min (idx (GatherDims.siIdx gather_S52x3584_S2048x1_S2048x3584_1_0_n_n_0_1_13584 (ix2 t n) ⟨0, by decide⟩)).toInt.toNat 51).trans ?_
    · rfl
    · refine congrArg (fun i => min (idx i).toInt.toNat 51) (funext fun b' => ?_)
      match b' with
      | ⟨0, _⟩ => rfl
      | ⟨1, _⟩ => rfl
  | ⟨1, _⟩ => exact Nat.zero_add n.val

/-- The scale of the adapter a row's word names. -/
theorem gather_ls {α : Type} (x : S52.Idx → α) (idx : IVec S2048x1 32) (t : Fin 2048) :
    Host.gather gather_S52_S2048x1_S2048_n_0_n_n_0_1_1 x idx (ix1 t)
      = x (ix1 (⟨min (idx (ix2 t 0)).toInt.toNat 51, by omega⟩ : Fin 52)) := by
  unfold Host.gather
  refine congrArg x (funext fun b => Fin.ext ?_)
  match b with
  | ⟨0, _⟩ =>
    refine (?_ : _ = min (idx (GatherDims.siIdx gather_S52_S2048x1_S2048_n_0_n_n_0_1_1 (ix1 t) ⟨0, by decide⟩)).toInt.toNat 51).trans ?_
    · rfl
    · refine congrArg (fun i => min (idx i).toInt.toNat 51) (funext fun b' => ?_)
      match b' with
      | ⟨0, _⟩ => rfl
      | ⟨1, _⟩ => rfl

/-- The adapter of the segment a row's word names. -/
theorem gather_ad {α : Type} (x : S40.Idx → α) (idx : IVec S2048x1 32) (t : Fin 2048) :
    Host.gather gather_S40_S2048x1_S2048_n_0_n_n_0_1_1 x idx (ix1 t)
      = x (ix1 (⟨min (idx (ix2 t 0)).toInt.toNat 39, by omega⟩ : Fin 40)) := by
  unfold Host.gather
  refine congrArg x (funext fun b => Fin.ext ?_)
  match b with
  | ⟨0, _⟩ =>
    refine (?_ : _ = min (idx (GatherDims.siIdx gather_S40_S2048x1_S2048_n_0_n_n_0_1_1 (ix1 t) ⟨0, by decide⟩)).toInt.toNat 39).trans ?_
    · rfl
    · refine congrArg (fun i => min (idx i).toInt.toNat 39) (funext fun b' => ?_)
      match b' with
      | ⟨0, _⟩ => rfl
      | ⟨1, _⟩ => rfl

end Cert.ReferenceIdeal.Gen
-- ==== Proof.Update.lean ====
/-
  The low-rank update of the rows of a trip over the extended reals, read at an index.
-/
module

public import proofs.«01_k».proof.Proof.Blocks
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe

/-- The adapter a word names, the nearest one where it names none. -/
def adapterIndex (A : BitVec 32) : Fin 52 := ⟨min (IntOp.maxsi A 0#32).toInt.toNat 51, by omega⟩

theorem adapterIndex_val (A : BitVec 32) : (adapterIndex A).val = min (IntOp.maxsi A 0#32).toInt.toNat 51 := rfl

/-- The adapter of row `t` after the first `n` segments. -/
def adapterAfter (t : BitVec 32) (st ad : Nat → BitVec 32) : Nat → BitVec 32
  | 0 => 4294967295#32
  | n + 1 => Scalar.select (IntOp.andi (IntOp.cmpi .sge t (st n)) (IntOp.cmpi .slt t (st (n + 1)))) (ad n) (adapterAfter t st ad n)

/-- The recursion over the segments at a place. -/
theorem rowAdapter_apply (s : Shape) (t : IVec s 32) (st ad : Nat → BitVec 32) (n : Nat) (i : s.Idx) :
    rowAdapter s t st ad n i = adapterAfter (t i) st ad n := by
  induction n with
  | zero => rfl
  | succ n ih => rw [adapterAfter, ← ih]; rfl

/-- The entry of the table of scales that a word names, zero where it names none of the first `n`. -/
def scaleAfter (a : BitVec 32) (ls : Nat → EReal) : Nat → EReal
  | 0 => 0
  | n + 1 => Scalar.select (IntOp.cmpi .eq a (BitVec.ofNat 32 n)) (ls n) (scaleAfter a ls n)

/-- The recursion over the adapters at a place. -/
theorem adapterScale_apply (a : IVec S256x128 32) (ls : Nat → EReal) (n : Nat) (i : S256x128.Idx) :
    adapterScale (F := Ideal) a ls n i = scaleAfter (a i) ls n := by
  induction n with
  | zero => exact Ideal.ofBits_zero_f32
  | succ n ih => rw [scaleAfter, ← ih]; rfl

/-- Two small words are equal where their numbers are. -/
theorem cmpi_small (a e : ℕ) (ha : a < 52) (he : e < 52) :
    IntOp.cmpi .eq (BitVec.ofNat 32 a) (BitVec.ofNat 32 e) = if a = e then 1#1 else 0#1 := by
  show BitVec.ofBool (BitVec.ofNat 32 a == BitVec.ofNat 32 e) = _
  by_cases h : a = e
  · rw [if_pos h, h, beq_self_eq_true]; rfl
  · have hne : BitVec.ofNat 32 a ≠ BitVec.ofNat 32 e := fun hh => h (by
      have := congrArg BitVec.toNat hh
      rw [BitVec.toNat_ofNat, BitVec.toNat_ofNat] at this
      omega)
    rw [if_neg h, beq_eq_false_iff_ne.mpr hne]; rfl

/-- The recursion over the adapters finds the entry a small word names. -/
theorem scaleAfter_small (a : ℕ) (ha : a < 52) (ls : Nat → EReal) (n : ℕ) (hn : n ≤ 52) :
    scaleAfter (BitVec.ofNat 32 a) ls n = if a < n then ls a else 0 := by
  induction n with
  | zero => rw [if_neg (Nat.not_lt_zero a)]; rfl
  | succ n ih =>
    rw [scaleAfter, ih (by omega), cmpi_small a n ha (by omega)]
    by_cases h : a = n
    · rw [if_pos h, if_pos (show a < n + 1 by omega), h]; rfl
    · rw [if_neg h]
      show (if a < n then ls a else 0) = _
      by_cases h' : a < n
      · rw [if_pos h', if_pos (by omega)]
      · rw [if_neg h', if_neg (by omega)]

/-- The product with a row of one one is the row it names. -/
theorem columnScale_apply (a : IVec S256x128 32) (bs : Vec Ideal S52x512 .f32) (r : Fin 256) (n : Fin 512) (e : Fin 52)
    (h : ∀ c : Fin 128, a (ix2 r c) = BitVec.ofNat 32 e.val) : columnScale (F := Ideal) a bs (ix2 r n) = bs (ix2 e n) := by
  unfold columnScale
  pointwise
  refine (Finset.sum_eq_single e (fun x _ hx => ?_) (fun hx => absurd (Finset.mem_univ e) hx)).trans ?_
  · rw [h, cmpi_small _ _ e.isLt x.isLt, if_neg (fun hh => hx (Fin.ext hh.symm))]
    rfl
  · rw [h, cmpi_small _ _ e.isLt e.isLt, if_pos rfl]
    rfl

/-- Place `k` of adapter `e` in the product over all adapters' rows. -/
def rankTerm (ra : IVec S16x256 32) (codes : Vec Ideal S16x256 .fp8e4m3) (b : Vec Ideal S52x16x512 .fp8e4m3) (r : Fin 256) (n : Fin 512)
    (e : Fin 52) (k : Fin 16) : EReal :=
  Scalar.select (IntOp.cmpi .eq (ra (ix2 k r)) (BitVec.ofNat 32 e.val)) (codes (ix2 k r)) 0 * b (ix3 e k n)

/-- The rows' codes in the places of their adapters. -/
def stacked (ra : IVec S16x256 32) (codes : Vec Ideal S16x256 .fp8e4m3) : FVec Ideal S832x256 .f32 :=
  concatenate S832x256 0 (List.ofFn fun a : Fin 52 => ⟨S16x256, codesOf (F := Ideal) ra (extf .f32 codes bitsLt_fp8e4m3_f32) a.val⟩)
    concatenates_adapters

/-- The stacked codes at an index. -/
theorem stacked_apply (ra : IVec S16x256 32) (codes : Vec Ideal S16x256 .fp8e4m3) (x : Fin 832) (r : Fin 256) :
    stacked ra codes (ix2 x r) = Scalar.select (IntOp.cmpi .eq (ra (ix2 (Fin.modNat (m := 52) (n := 16) x) r))
      (BitVec.ofNat 32 (Fin.divNat (m := 52) (n := 16) x).val)) (codes (ix2 (Fin.modNat (m := 52) (n := 16) x) r)) 0 := by
  refine (concatenate_ofFn_apply (t := S832x256) (s₁ := S16x256) (a := (0 : Fin 2))
    (f := fun a : Fin 52 => codesOf (F := Ideal) ra (extf .f32 codes bitsLt_fp8e4m3_f32) a.val)
    (h := concatenates_adapters) (hr := rfl) (K := 16) (hK := by decide)
    (j := (ix2 x r : S832x256.Idx)) (n := Fin.divNat (m := 52) (n := 16) x) (hn := rfl)
    (i := (ix2 (Fin.modNat (m := 52) (n := 16) x) r : S16x256.Idx)) (hia := rfl) (hi := ?_)).trans ?_
  · intro c hc
    match c with
    | ⟨0, _⟩ => exact absurd rfl hc
    | ⟨1, _⟩ => rfl
  · exact congrArg (Scalar.select _ _) Ideal.ofBits_zero_f32

/-- The product over all adapters' rows, as a sum over adapters and places. -/
theorem lowRank_apply (ra : IVec S16x256 32) (codes : Vec Ideal S16x256 .fp8e4m3) (b : Vec Ideal S52x16x512 .fp8e4m3) (r : Fin 256) (n : Fin 512) :
    lowRank (F := Ideal) ra codes b (ix2 r n) = ∑ e : Fin 52, ∑ k : Fin 16, rankTerm ra codes b r n e k := by
  have e : lowRank (F := Ideal) ra codes b = matmul dot_S256x832_S832x512_S256x512_1_0_0_1_n_n none
    (truncf .fp8e4m3 (transpose S256x832 [1, 0] (stacked ra codes) transposes_S832x256_p1_0_S256x832) bitsLt_fp8e4m3_f32)
    (k0_pay1 b) (constant S256x512 .f32 0x00000000#32) := rfl
  rw [e]
  unfold k0_pay1
  pointwise
  rw [← Fintype.sum_prod_type' (rankTerm ra codes b r n)]
  refine Fintype.sum_equiv (M := EReal) (show Fin 832 ≃ Fin 52 × Fin 16 from (finProdFinEquiv : Fin 52 × Fin 16 ≃ Fin (52 * 16)).symm)
    _ _ fun x => ?_
  rw [stacked_apply]
  rfl

/-- The number of row `r` of trip `k`, as a word. -/
theorem row_word (k r : ℕ) : IntOp.addi (BitVec.ofNat 32 r) (Scalar.muli (Scalar.addi (0#32)
    (Scalar.muli (Scf.iv 0#32 1#32 k) 1#32)) 256#32) = BitVec.ofNat 32 (256 * k + r) := by
  show BitVec.ofNat 32 r + (0#32 + (0#32 + BitVec.ofNat 32 k * 1#32) * 1#32) * 256#32 = _
  apply BitVec.eq_of_toNat_eq
  simp only [BitVec.toNat_add, BitVec.toNat_mul, BitVec.toNat_ofNat]
  omega

/-- The rows of a trip along the lanes. -/
theorem rowsAlongLanes_apply (k : Fin k0_t1_loop.trips) (a : Fin 16) (r : Fin 256) :
    rowsAlongLanes k (ix2 a r) = BitVec.ofNat 32 (256 * k.val + r.val) := by
  unfold rowsAlongLanes k0_pay6
  pointwise
  exact row_word k.val r.val

/-- The rows of a trip along the sublanes. -/
theorem rowsAlongSublanes_apply (k : Fin k0_t1_loop.trips) (a : Fin 128) (r : Fin 256) :
    rowsAlongSublanes k (ix2 r a) = BitVec.ofNat 32 (256 * k.val + r.val) := by
  unfold rowsAlongSublanes k0_pay79
  pointwise
  exact row_word k.val r.val

/-- The low-rank update at a row and a column, from the row's adapter word, its codes and scale, and the factors, their
    scales and the adapters' scales by adapter. A row of no adapter takes adapter 0 and codes of zero. -/
def update (A : BitVec 32) (codes : Fin 16 → EReal) (us : EReal) (b : Fin 52 → Fin 16 → EReal) (bs ls : Fin 52 → EReal) : EReal :=
  (((∑ k : Fin 16, Scalar.select (IntOp.cmpi .sge A 0#32) (codes k) 0 * b (adapterIndex A) k) * us) * bs (adapterIndex A))
    * ls (adapterIndex A)

/-- A word below 52 is negative or names an adapter. -/
theorem word_cases (A : BitVec 32) (h : A.toInt < 52) :
    (IntOp.cmpi .sge A 0#32 = 0#1 ∧ IntOp.maxsi A 0#32 = BitVec.ofNat 32 (adapterIndex A).val
        ∧ ∀ e < 52, IntOp.cmpi .eq A (BitVec.ofNat 32 e) = 0#1)
      ∨ (IntOp.cmpi .sge A 0#32 = 1#1 ∧ IntOp.maxsi A 0#32 = BitVec.ofNat 32 (adapterIndex A).val
        ∧ A = BitVec.ofNat 32 (adapterIndex A).val) := by
  by_cases h0 : A.toInt < 0
  · left
    have hs : A.slt 0#32 = true := by rw [BitVec.slt_iff_toInt_lt]; exact h0
    have hm : IntOp.maxsi A 0#32 = 0#32 := by
      unfold IntOp.maxsi
      rw [if_neg]
      rw [BitVec.slt_iff_toInt_lt]
      show ¬ (0 : ℤ) < A.toInt
      omega
    refine ⟨?_, ?_, fun e he => ?_⟩
    · show BitVec.ofBool ((0#32).sle A) = 0#1
      rw [show (0#32).sle A = false from Bool.eq_false_iff.mpr fun h' => by
        rw [BitVec.sle_iff_toInt_le] at h'
        exact absurd h' (not_le.mpr h0)]
      rfl
    · rw [adapterIndex_val, hm]
      rfl
    · show BitVec.ofBool (A == BitVec.ofNat 32 e) = 0#1
      rw [beq_eq_false_iff_ne.mpr fun h' => by
        rw [h', BitVec.toInt_eq_toNat_cond, BitVec.toNat_ofNat, if_pos (by omega)] at h0
        omega]
      rfl
  · right
    have hn : A.toInt = A.toNat := by
      have hlt := A.isLt
      rw [BitVec.toInt_eq_toNat_cond] at h0 ⊢
      split at h0
      · rw [if_pos ‹_›]
      · omega
    have hm : IntOp.maxsi A 0#32 = A := by
      unfold IntOp.maxsi
      by_cases hp : (0#32).slt A = true
      · rw [if_pos hp]
      · rw [if_neg hp]
        rw [BitVec.slt_iff_toInt_lt] at hp
        have hp' : ¬ (0 : ℤ) < A.toInt := hp
        apply BitVec.eq_of_toNat_eq
        show 0 = A.toNat
        omega
    have hi : BitVec.ofNat 32 (adapterIndex A).val = A := by
      rw [adapterIndex_val, hm]
      apply BitVec.eq_of_toNat_eq
      rw [BitVec.toNat_ofNat]
      omega
    refine ⟨?_, hm.trans hi.symm, hi.symm⟩
    show BitVec.ofBool ((0#32).sle A) = 1#1
    rw [show (0#32).sle A = true by
      rw [BitVec.sle_iff_toInt_le]
      exact not_lt.mp h0]
    rfl

/-- The update of a trip at an index. -/
theorem updateRows_apply (k : Fin k0_t1_loop.trips) (st ad : Nat → BitVec 32) (ls : Nat → EReal) (codes : Vec Ideal S16x256 .fp8e4m3)
    (us : Vec Ideal S1x256 .f32) (b : Vec Ideal S52x16x512 .fp8e4m3) (bs : Vec Ideal S52x512 .f32) (r : Fin 256) (n : Fin 512)
    (h : (adapterAfter (BitVec.ofNat 32 (256 * k.val + r.val)) st ad 40).toInt < 52) :
    updateRows (F := Ideal) k st ad ls codes us b bs (ix2 r n)
      = update (adapterAfter (BitVec.ofNat 32 (256 * k.val + r.val)) st ad 40) (fun a => codes (ix2 a r)) (us (ix2 0 r))
          (fun e a => b (ix3 e a n)) (fun e => bs (ix2 e n)) (fun e => ls e.val) := by
  unfold updateRows
  unfold k0_pay78
  pointwise
  have hm : ∀ c : Fin 128, maxsi (rowAdapter S256x128 (rowsAlongSublanes k) st ad 40) (broadcast S256x128 0#32) (ix2 r c)
      = IntOp.maxsi (adapterAfter (BitVec.ofNat 32 (256 * k.val + r.val)) st ad 40) 0#32 := fun c =>
    congrArg (fun w => IntOp.maxsi w 0#32) ((rowAdapter_apply _ _ st ad 40 _).trans (by rw [rowsAlongSublanes_apply]))
  have hl : ∀ a : Fin 16, rowAdapter S16x256 (rowsAlongLanes k) st ad 40 (ix2 a r)
      = adapterAfter (BitVec.ofNat 32 (256 * k.val + r.val)) st ad 40 := fun a =>
    (rowAdapter_apply _ _ st ad 40 _).trans (by rw [rowsAlongLanes_apply])
  generalize adapterAfter (BitVec.ofNat 32 (256 * k.val + r.val)) st ad 40 = A at h hm hl ⊢
  have hA : IntOp.maxsi A 0#32 = BitVec.ofNat 32 (adapterIndex A).val := (word_cases A h).elim (fun h => h.2.1) fun h => h.2.1
  unfold update
  rw [columnScale_apply _ bs r n (adapterIndex A) (fun c => (hm c).trans hA), adapterScale_apply, hm, hA,
    scaleAfter_small _ (adapterIndex A).isLt ls 52 le_rfl, if_pos (adapterIndex A).isLt, lowRank_apply]
  refine congrArg (fun s => s * us (ix2 0 r) * bs (ix2 (adapterIndex A) n) * ls (adapterIndex A).val) ?_
  rcases word_cases A h with ⟨h1, -, h3⟩ | ⟨h1, -, h3⟩
  · rw [h1]
    refine (Finset.sum_eq_zero fun e _ => Finset.sum_eq_zero fun a _ => ?_).trans (Finset.sum_eq_zero fun a _ => ?_).symm
    · rw [rankTerm, hl, h3 e.val e.isLt]
      exact zero_mul _
    · exact zero_mul _
  · rw [h1]
    refine (Finset.sum_eq_single (adapterIndex A) (fun e _ he => Finset.sum_eq_zero fun a _ => ?_)
      (fun hx => absurd (Finset.mem_univ _) hx)).trans (Finset.sum_congr rfl fun a _ => ?_)
    · rw [rankTerm, hl, h3, cmpi_small _ _ (adapterIndex A).isLt e.isLt, if_neg (fun hh => he (Fin.ext hh.symm))]
      exact zero_mul _
    · rw [rankTerm, hl]
      nth_rw 1 [h3]
      rw [cmpi_small _ _ (adapterIndex A).isLt (adapterIndex A).isLt, if_pos rfl]

end Cert.KernelIdeal.Gen
-- ==== Proof.Segments.lean ====
/-
  The segment a row lies in: counting the starts not after the row, and searching the segments one by one.
-/
module

public import proofs.«01_k».proof.Proof.Update
public import Idealize.ShloMosaic.Lib.StableHlo.Predicate

@[expose] public section

noncomputable section

namespace Cert.MultiLora

open Cert.KernelIdeal.Gen Idealize.ShloMosaic

/-- Where a property of the places holds up to some place and not after it, it holds below the number of places where it
    holds. -/
theorem lt_card_of_sorted {N : ℕ} (P : Fin N → Prop) [DecidablePred P] (h : ∀ p q : Fin N, p ≤ q → P q → P p) (s : Fin N) :
    P s ↔ s.val < (Finset.univ.filter P).card := by
  constructor
  · intro hs
    have hsub : Finset.Iic s ⊆ Finset.univ.filter P := fun q hq =>
      Finset.mem_filter.2 ⟨Finset.mem_univ _, h q s (Finset.mem_Iic.1 hq) hs⟩
    have := Finset.card_le_card hsub
    rw [Fin.card_Iic] at this
    omega
  · intro hlt
    by_contra hs
    have hsub : Finset.univ.filter P ⊆ Finset.Iio s := fun q hq =>
      Finset.mem_Iio.2 (lt_of_not_ge fun hsq => hs (h s q hsq (Finset.mem_filter.1 hq).2))
    have := Finset.card_le_card hsub
    rw [Fin.card_Iio] at this
    omega

theorem sle_one_iff (a b : BitVec 32) : IntOp.cmpi .sle a b = 1#1 ↔ a.toInt ≤ b.toInt := by
  show BitVec.ofBool (a.sle b) = 1#1 ↔ _
  rw [StableHlo.Predicate.ofBool_eq_one_iff]
  exact BitVec.sle_iff_toInt_le

theorem slt_one_iff (a b : BitVec 32) : IntOp.cmpi .slt a b = 1#1 ↔ a.toInt < b.toInt := by
  show BitVec.ofBool (a.slt b) = 1#1 ↔ _
  rw [StableHlo.Predicate.ofBool_eq_one_iff]
  exact BitVec.slt_iff_toInt_lt

theorem sge_one_iff (a b : BitVec 32) : IntOp.cmpi .sge a b = 1#1 ↔ b.toInt ≤ a.toInt := by
  show BitVec.ofBool (b.sle a) = 1#1 ↔ _
  rw [StableHlo.Predicate.ofBool_eq_one_iff]
  exact BitVec.sle_iff_toInt_le

/-- The conjunction of two bits is one where both are. -/
theorem andi_one_iff (a b : BitVec 1) : IntOp.andi a b = 1#1 ↔ a = 1#1 ∧ b = 1#1 := by
  revert a b; decide

/-- A selection on a bit that is one. -/
theorem select_one {α : Type} (p : BitVec 1) (a b : α) (h : p = 1#1) : Scalar.select p a b = a := by
  subst h; rfl

/-- A selection on a bit that is not one. -/
theorem select_not_one {α : Type} (p : BitVec 1) (a b : α) (h : ¬ p = 1#1) : Scalar.select p a b = b :=
  if_neg h

/-- The search finds segment `c - 1` where the starts not after the row are the first `c`. -/
theorem adapterAfter_of_count (t : BitVec 32) (st ad : Nat → BitVec 32) (c N : ℕ) (hc : 1 ≤ c)
    (h : ∀ s, s ≤ N → ((st s).toInt ≤ t.toInt ↔ s < c)) :
    ∀ n, c ≤ n → n ≤ N → adapterAfter t st ad n = ad (c - 1) := by
  intro n
  induction n with
  | zero => intro h1; omega
  | succ n ih =>
    intro h1 h2
    rw [adapterAfter]
    have e1 := h n (by omega)
    have e2 := h (n + 1) h2
    rcases Nat.lt_or_ge n c with hn | hn
    · rw [select_one _ _ _ ((andi_one_iff _ _).2 ⟨(sge_one_iff _ _).2 (e1.2 hn), (slt_one_iff _ _).2 ?_⟩)]
      · rw [show c - 1 = n by omega]
      · exact lt_of_not_ge fun hh => by have := e2.1 hh; omega
    · rw [select_not_one _ _ _ fun hh => ?_]
      · exact ih hn (by omega)
      · have := e1.1 ((sge_one_iff _ _).1 ((andi_one_iff _ _).1 hh).1); omega

end Cert.MultiLora
-- ==== Proof.Trip.lean ====
/-
  The stores of one trip of the kernel's row loop: the run of the trip found them, and here their payloads are the
  vector operations of Blocks.lean on what the trip reads.
-/
module

public import proofs.«01_k».proof.Proof.Blocks
public import Idealize.ShloMosaic.Lib.Tactic.RunNames
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.ShloMosaic.ValueIdx

variable {F : FTy → Type} [FloatOps F]

/-- A word read from the table of segment starts. -/
theorem read_start (arg2 : Memref sig .tc .smem S41 .i32) (X : BufTy.Contents (Elt F) arg2.view.ty) (n : ℕ)
    (h : ∀ a, (![n] : Fin 1 → ℕ) a + (![1] : Fin 1 → ℕ) a ≤ S41.size a) (h' : 0 < S1.numel) :
    View.readAt (Elt F) arg2.view (Rect.unit (s := S41) ![n] ![1] h).toLoadRect X (Shape.Idx.first h') = startWord (F := F) (arg2.view.read (Elt F) X) n := by
  have h0 := h 0
  have h1 : n + 1 ≤ 41 := h0
  refine congrArg (arg2.view.read (Elt F) X) (funext fun a => Fin.ext ?_)
  match a with
  | ⟨0, _⟩ => show n + 1 * 0 = min n 40; omega

/-- A word read from the table of the segments' adapters. -/
theorem read_adapter (arg3 : Memref sig .tc .smem S40 .i32) (X : BufTy.Contents (Elt F) arg3.view.ty) (n : ℕ)
    (h : ∀ a, (![n] : Fin 1 → ℕ) a + (![1] : Fin 1 → ℕ) a ≤ S40.size a) (h' : 0 < S1.numel) :
    View.readAt (Elt F) arg3.view (Rect.unit (s := S40) ![n] ![1] h).toLoadRect X (Shape.Idx.first h') = adapterWord (F := F) (arg3.view.read (Elt F) X) n := by
  have h0 := h 0
  have h1 : n + 1 ≤ 40 := h0
  refine congrArg (arg3.view.read (Elt F) X) (funext fun a => Fin.ext ?_)
  match a with
  | ⟨0, _⟩ => show n + 1 * 0 = min n 39; omega

/-- An entry read from the table of the adapters' scales. -/
theorem read_scale (arg4 : Memref sig .tc .smem S52 .f32) (X : BufTy.Contents (Elt F) arg4.view.ty) (n : ℕ)
    (h : ∀ a, (![n] : Fin 1 → ℕ) a + (![1] : Fin 1 → ℕ) a ≤ S52.size a) (h' : 0 < S1.numel) :
    View.readAt (Elt F) arg4.view (Rect.unit (s := S52) ![n] ![1] h).toLoadRect X (Shape.Idx.first h') = scaleEntry (F := F) (arg4.view.read (Elt F) X) n := by
  have h0 := h 0
  have h1 : n + 1 ≤ 52 := h0
  refine congrArg (arg4.view.read (Elt F) X) (funext fun a => Fin.ext ?_)
  match a with
  | ⟨0, _⟩ => show n + 1 * 0 = min n 51; omega

variable (𝒱 : Variants) (c : Dev nD) (bd : Option 𝒱.V) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (k0_h2 : k0_cond2 i = 1#1) (v38 : Vec F S52x16x512 .fp8e4m3) (X_arg2 : BufTy.Contents (Elt F) arg2.view.ty) (X_arg3 : BufTy.Contents (Elt F) arg3.view.ty) (X_arg4 : BufTy.Contents (Elt F) arg4.view.ty) (X_arg9 : BufTy.Contents (Elt F) arg9.view.ty) (X_arg10 : BufTy.Contents (Elt F) arg10.view.ty) (X_arg12 : BufTy.Contents (Elt F) arg12.view.ty) (X_arg17 : BufTy.Contents (Elt F) arg17.view.ty) (k : Fin k0_t1_loop.trips)

/-- A read of the whole table of column scales. -/
theorem read_columns (arg12 : Memref sig .tc .vmem S52x512 .f32) (X : BufTy.Contents (Elt F) arg12.view.ty)
    (h : ∀ a, (![0, 0] : Fin 2 → ℕ) a + (![52, 512] : Fin 2 → ℕ) a ≤ S52x512.size a) :
    View.readAt (Elt F) arg12.view (Rect.unit (s := S52x512) ![0, 0] ![52, 512] h).toLoadRect X = arg12.view.read (Elt F) X := by
  refine funext fun j => congrArg (arg12.view.read (Elt F) X) (funext fun a => Fin.ext ?_)
  match a with
  | ⟨0, _⟩ => show 0 + 1 * (j 0).val = (j 0).val; omega
  | ⟨1, _⟩ => show 0 + 1 * (j 1).val = (j 1).val; omega

/-- Columns 0 to 127 of 512. -/
abbrev columns0 (y : FVec F S256x512 .f32) : FVec F S256x128 .f32 := extractStridedSlice S256x128 ![0, 0] y slices_S256x512_o0_0_S256x128

/-- Columns 128 to 255 of 512. -/
abbrev columns1 (y : FVec F S256x512 .f32) : FVec F S256x128 .f32 := extractStridedSlice S256x128 ![0, 128] y slices_S256x512_o0_128_S256x128

/-- Columns 256 to 383 of 512. -/
abbrev columns2 (y : FVec F S256x512 .f32) : FVec F S256x128 .f32 := extractStridedSlice S256x128 ![0, 256] y slices_S256x512_o0_256_S256x128

/-- Columns 384 to 511 of 512. -/
abbrev columns3 (y : FVec F S256x512 .f32) : FVec F S256x128 .f32 := extractStridedSlice S256x128 ![0, 384] y slices_S256x512_o0_384_S256x128

/-- The store of the base rows. -/
theorem trip_base : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 k).1
    = [⟨Rect.unit (k0_off1 k) S256x512.size (k0_off1_inb i k k0_h2), k0_pay4 (View.ld (arg17.view.read (Elt F) X_arg17) (Rect.unit (k0_off1 k) S256x512.size (k0_off1_inb i k k0_h2)))⟩] := by
  unfold trip_k0_t1
  dsimp only
  sl_unfold_run_names
  rfl

/-- The store of the rows' update. -/
theorem trip_update : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 k).2.1
    = [⟨Rect.unit (k0_off1 k) S256x512.size (k0_off1_inb i k k0_h2),
        updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12)⟩] := by
  unfold trip_k0_t1
  dsimp only
  sl_unfold_run_names
  simp only [read_start, read_adapter, read_scale, read_columns]
  rfl

/-- The stores of the codes, 128 columns each. -/
theorem trip_codes : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 k).2.2.1
    = [⟨Rect.unit (k0_off10 k) S256x128.size (k0_off10_inb i k k0_h2), codesBlock (columns3 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off8 k) S256x128.size (k0_off8_inb i k k0_h2), codesBlock (columns2 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off6 k) S256x128.size (k0_off6_inb i k k0_h2), codesBlock (columns1 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off4 k) S256x128.size (k0_off4_inb i k k0_h2), codesBlock (columns0 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩] := by
  unfold trip_k0_t1
  dsimp only
  sl_unfold_run_names
  simp only [read_start, read_adapter, read_scale, read_columns]
  rfl

/-- The stores of the scales, one row each. -/
theorem trip_scales : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 k).2.2.2.1
    = [⟨Rect.unit (k0_off11 k) S1x1x256.size (k0_off11_inb i k k0_h2), scalesBlock (columns3 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off9 k) S1x1x256.size (k0_off9_inb i k k0_h2), scalesBlock (columns2 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off7 k) S1x1x256.size (k0_off7_inb i k k0_h2), scalesBlock (columns1 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩,
        ⟨Rect.unit (k0_off5 k) S1x1x256.size (k0_off5_inb i k k0_h2), scalesBlock (columns0 (addf (View.ld (arg17.view.read (Elt F) X_arg17) (Rect.unit (k0_off1 k) S256x512.size (k0_off1_inb i k k0_h2))) (updateRows k (startWord (F := F) (arg2.view.read (Elt F) X_arg2)) (adapterWord (F := F) (arg3.view.read (Elt F) X_arg3)) (scaleEntry (arg4.view.read (Elt F) X_arg4))
          (View.ld (arg9.view.read (Elt F) X_arg9) (Rect.unit (k0_off2 k) S16x256.size (k0_off2_inb i k k0_h2)))
          (View.ld (arg10.view.read (Elt F) X_arg10) (Rect.unit (k0_off3 k) S1x256.size (k0_off3_inb i k k0_h2)))
          v38 (arg12.view.read (Elt F) X_arg12))))⟩] := by
  unfold trip_k0_t1
  dsimp only
  sl_unfold_run_names
  simp only [read_start, read_adapter, read_scale, read_columns]
  rfl

end Cert.KernelIdeal.Gen

end
-- ==== Proof.Pieces.lean ====
/-
  The rectangles that the trips of the row loop store to, and the arrays that those stores make up: trip `k` holds rows
  `256 k` to `256 k + 255`, and a store of 128 columns or of one row of scales is one of four of its trip.
-/
module

public import proofs.«01_k».proof.Proof.Blocks
public import Idealize.ShloMosaic.Lib.Pipeline.Value

@[expose] public section

set_option maxRecDepth 16384

noncomputable section

namespace Cert.KernelIdeal.Gen

open Idealize.ShloMosaic Idealize.ShloMosaic.TcCoe Idealize.ShloMosaic.ValueIdx

/-- The row loop makes eight trips. -/
theorem trips_eq : k0_t1_loop.trips = 8 := by decide +kernel

variable {α : Type}

/-- The trip of a row. -/
def tripOf (r : Fin 2048) : Fin k0_t1_loop.trips := ⟨r.val / 256, by rw [trips_eq]; omega⟩

/-- The row inside its trip. -/
def inTrip (r : Fin 2048) : Fin 256 := ⟨r.val % 256, by omega⟩

/-- The array made of one block of rows per trip. -/
def ofRows (f : Fin k0_t1_loop.trips → S256x512.Idx → α) (y : S2048x512.Idx) : α :=
  f (tripOf (y 0)) (ix2 (inTrip (y 0)) (y 1))

/-- The array made of four blocks of 128 columns per trip. -/
def ofTiles (f : Fin k0_t1_loop.trips → Fin 4 → S256x128.Idx → α) (y : S2048x512.Idx) : α :=
  f (tripOf (y 0)) ⟨(y 1).val / 128, by have h : (y 1).val < 512 := (y 1).isLt; omega⟩
    (ix2 (inTrip (y 0)) (⟨(y 1).val % 128, by omega⟩ : Fin 128))

/-- The array made of four rows of scales per trip. -/
def ofLanes (f : Fin k0_t1_loop.trips → Fin 4 → S1x1x256.Idx → α) (y : S1x4x2048.Idx) : α :=
  f (tripOf (y 2)) (y 1) (ix3 (0 : Fin 1) (0 : Fin 1) (inTrip (y 2)))

theorem ofRows_piece (f : Fin k0_t1_loop.trips → S256x512.Idx → α) (k : Fin k0_t1_loop.trips) {off : Fin 2 → ℕ}
    (hoff : off = ![256 * k.val, 0]) (inb : ∀ a, off a + S256x512.size a ≤ S2048x512.size a) (x : S256x512.Idx) :
    f k x = ofRows f ((Rect.unit (s := S2048x512) off S256x512.size inb).emb x) := by
  subst hoff
  have h0 : (x 0).val < 256 := (x 0).isLt
  have e0 : (((Rect.unit (s := S2048x512) ![256 * k.val, 0] S256x512.size inb).emb x) 0).val = 256 * k.val + (x 0).val := by
    rw [Rect.emb_apply]; show 256 * k.val + 1 * (x 0).val = _; omega
  have e1 : (((Rect.unit (s := S2048x512) ![256 * k.val, 0] S256x512.size inb).emb x) 1).val = (x 1).val := by
    rw [Rect.emb_apply]; show 0 + 1 * (x 1).val = _; omega
  unfold ofRows tripOf inTrip
  have hk : (⟨(((Rect.unit (s := S2048x512) ![256 * k.val, 0] S256x512.size inb).emb x) 0).val / 256, by have := k.isLt; omega⟩ : Fin k0_t1_loop.trips) = k :=
    Fin.ext (by show _ / 256 = k.val; omega)
  rw [hk]
  refine congrArg (f k) ((eq_ix2 x).trans ?_)
  exact congrArg₂ ix2 (Fin.ext (by show (x 0).val = _ % 256; omega)) (Fin.ext e1.symm)

theorem ofTiles_piece (f : Fin k0_t1_loop.trips → Fin 4 → S256x128.Idx → α) (k : Fin k0_t1_loop.trips) (j : Fin 4) {off : Fin 2 → ℕ}
    (hoff : off = ![256 * k.val, 128 * j.val]) (inb : ∀ a, off a + S256x128.size a ≤ S2048x512.size a) (x : S256x128.Idx) :
    f k j x = ofTiles f ((Rect.unit (s := S2048x512) off S256x128.size inb).emb x) := by
  subst hoff
  have h0 : (x 0).val < 256 := (x 0).isLt
  have h1 : (x 1).val < 128 := (x 1).isLt
  have hj : j.val < 4 := j.isLt
  have e0 : (((Rect.unit (s := S2048x512) ![256 * k.val, 128 * j.val] S256x128.size inb).emb x) 0).val = 256 * k.val + (x 0).val := by
    rw [Rect.emb_apply]; show 256 * k.val + 1 * (x 0).val = _; omega
  have e1 : (((Rect.unit (s := S2048x512) ![256 * k.val, 128 * j.val] S256x128.size inb).emb x) 1).val = 128 * j.val + (x 1).val := by
    rw [Rect.emb_apply]; show 128 * j.val + 1 * (x 1).val = _; omega
  unfold ofTiles tripOf inTrip
  have hk : (⟨(((Rect.unit (s := S2048x512) ![256 * k.val, 128 * j.val] S256x128.size inb).emb x) 0).val / 256, by have := k.isLt; omega⟩ : Fin k0_t1_loop.trips) = k :=
    Fin.ext (by show _ / 256 = k.val; omega)
  have hj : (⟨(((Rect.unit (s := S2048x512) ![256 * k.val, 128 * j.val] S256x128.size inb).emb x) 1).val / 128, by omega⟩ : Fin 4) = j :=
    Fin.ext (by show _ / 128 = j.val; omega)
  rw [hk, hj]
  refine congrArg (f k j) ((eq_ix2 x).trans ?_)
  exact congrArg₂ ix2 (Fin.ext (by show (x 0).val = _ % 256; omega)) (Fin.ext (by show (x 1).val = _ % 128; omega))

theorem ofLanes_piece (f : Fin k0_t1_loop.trips → Fin 4 → S1x1x256.Idx → α) (k : Fin k0_t1_loop.trips) (j : Fin 4) {off : Fin 3 → ℕ}
    (hoff : off = ![0, j.val, 256 * k.val]) (inb : ∀ a, off a + S1x1x256.size a ≤ S1x4x2048.size a) (x : S1x1x256.Idx) :
    f k j x = ofLanes f ((Rect.unit (s := S1x4x2048) off S1x1x256.size inb).emb x) := by
  subst hoff
  have h0 : (x 0).val < 1 := (x 0).isLt
  have h1 : (x 1).val < 1 := (x 1).isLt
  have h2 : (x 2).val < 256 := (x 2).isLt
  have e1 : (((Rect.unit (s := S1x4x2048) ![0, j.val, 256 * k.val] S1x1x256.size inb).emb x) 1).val = j.val := by
    rw [Rect.emb_apply]; show j.val + 1 * (x 1).val = _; omega
  have e2 : (((Rect.unit (s := S1x4x2048) ![0, j.val, 256 * k.val] S1x1x256.size inb).emb x) 2).val = 256 * k.val + (x 2).val := by
    rw [Rect.emb_apply]; show 256 * k.val + 1 * (x 2).val = _; omega
  unfold ofLanes tripOf inTrip
  have hk : (⟨(((Rect.unit (s := S1x4x2048) ![0, j.val, 256 * k.val] S1x1x256.size inb).emb x) 2).val / 256, by have := k.isLt; omega⟩ : Fin k0_t1_loop.trips) = k :=
    Fin.ext (by show _ / 256 = k.val; omega)
  have hj : ((Rect.unit (s := S1x4x2048) ![0, j.val, 256 * k.val] S1x1x256.size inb).emb x) 1 = j := Fin.ext e1
  rw [hk, hj]
  refine congrArg (f k j) ((eq_ix3 x).trans ?_)
  have i0 : x 0 = (0 : Fin 1) := Fin.ext (by show (x 0).val = 0; omega)
  have i1 : x 1 = (0 : Fin 1) := Fin.ext (by show (x 1).val = 0; omega)
  have i2 : x 2 = (⟨(((Rect.unit (s := S1x4x2048) ![0, j.val, 256 * k.val] S1x1x256.size inb).emb x) 2).val % 256, by omega⟩ : Fin 256) :=
    Fin.ext (by show (x 2).val = _ % 256; omega)
  rw [i0, i1, i2]
  rfl

/-- A row's place lies in the block that its trip stores. -/
theorem mem_rows (k : Fin k0_t1_loop.trips) {off : Fin 2 → ℕ} (hoff : off = ![256 * k.val, 0])
    (inb : ∀ a, off a + S256x512.size a ≤ S2048x512.size a) (y : S2048x512.Idx) (h0 : (y 0).val / 256 = k.val) :
    y ∈ (Rect.unit (s := S2048x512) off S256x512.size inb).set := by
  subst hoff
  refine Rect.mem_set_unit.mpr fun a => ?_
  have h1 : (y 1).val < 512 := (y 1).isLt
  match a with
  | ⟨0, _⟩ => show 256 * k.val ≤ (y 0).val ∧ (y 0).val < 256 * k.val + 256; omega
  | ⟨1, _⟩ => show 0 ≤ (y 1).val ∧ (y 1).val < 0 + 512; omega

/-- A place lies in the 128 columns that its trip stores. -/
theorem mem_tiles (k : Fin k0_t1_loop.trips) (j : Fin 4) {off : Fin 2 → ℕ} (hoff : off = ![256 * k.val, 128 * j.val])
    (inb : ∀ a, off a + S256x128.size a ≤ S2048x512.size a) (y : S2048x512.Idx) (h0 : (y 0).val / 256 = k.val) (h1 : (y 1).val / 128 = j.val) :
    y ∈ (Rect.unit (s := S2048x512) off S256x128.size inb).set := by
  subst hoff
  refine Rect.mem_set_unit.mpr fun a => ?_
  match a with
  | ⟨0, _⟩ => show 256 * k.val ≤ (y 0).val ∧ (y 0).val < 256 * k.val + 256; omega
  | ⟨1, _⟩ => show 128 * j.val ≤ (y 1).val ∧ (y 1).val < 128 * j.val + 128; omega

/-- A place lies in the row of scales that its trip stores. -/
theorem mem_lanes (k : Fin k0_t1_loop.trips) (j : Fin 4) {off : Fin 3 → ℕ} (hoff : off = ![0, j.val, 256 * k.val])
    (inb : ∀ a, off a + S1x1x256.size a ≤ S1x4x2048.size a) (y : S1x4x2048.Idx) (h1 : (y 1).val = j.val) (h2 : (y 2).val / 256 = k.val) :
    y ∈ (Rect.unit (s := S1x4x2048) off S1x1x256.size inb).set := by
  subst hoff
  refine Rect.mem_set_unit.mpr fun a => ?_
  have h0 : (y 0).val < 1 := (y 0).isLt
  match a with
  | ⟨0, _⟩ => show 0 ≤ (y 0).val ∧ (y 0).val < 0 + 1; omega
  | ⟨1, _⟩ => show j.val ≤ (y 1).val ∧ (y 1).val < j.val + 1; omega
  | ⟨2, _⟩ => show 256 * k.val ≤ (y 2).val ∧ (y 2).val < 256 * k.val + 256; omega

end Cert.KernelIdeal.Gen

end
-- ==== Proof.Loop.lean ====
/-
  What the row loop leaves in the four results' blocks after `n` trips: every stored piece holds the values of one array,
  and every row of the first `n` trips lies in a stored piece.
-/
module

public import proofs.«01_k».proof.Proof.Trip
public import proofs.«01_k».proof.Proof.Pieces

@[expose] public section

set_option maxRecDepth 16384

noncomputable section

namespace Cert.KernelIdeal.Gen

open Idealize.ShloMosaic Idealize.ShloMosaic.TcCoe Idealize.ShloMosaic.ValueIdx

variable {F : FTy → Type} [FloatOps F]

section
variable (𝒱 : Variants) (c : Dev nD) (bd : Option 𝒱.V) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (k0_h2 : k0_cond2 i = 1#1) (v38 : Vec F S52x16x512 .fp8e4m3) (X_arg2 : BufTy.Contents (Elt F) arg2.view.ty) (X_arg3 : BufTy.Contents (Elt F) arg3.view.ty) (X_arg4 : BufTy.Contents (Elt F) arg4.view.ty) (X_arg9 : BufTy.Contents (Elt F) arg9.view.ty) (X_arg10 : BufTy.Contents (Elt F) arg10.view.ty) (X_arg12 : BufTy.Contents (Elt F) arg12.view.ty) (X_arg17 : BufTy.Contents (Elt F) arg17.view.ty)

/-- The base rows of trip `k`. -/
abbrev accRows (k : Fin k0_t1_loop.trips) : Vec F S256x512 .f32 :=
  (View.ld (arg17.view.read (Elt F) X_arg17) (Rect.unit (k0_off1 k) S256x512.size (k0_off1_inb i k k0_h2)))

/-- The low-rank update of trip `k`. -/
abbrev updates (k : Fin k0_t1_loop.trips) : FVec F S256x512 .f32 :=
  updateRows k (startWord (F := F) (arg2.view.read (Elt F) X_arg2)) (adapterWord (F := F) (arg3.view.read (Elt F) X_arg3)) (scaleEntry (arg4.view.read (Elt F) X_arg4))
    (View.ld (arg9.view.read (Elt F) X_arg9) (Rect.unit (k0_off2 k) S16x256.size (k0_off2_inb i k k0_h2)))
    (View.ld (arg10.view.read (Elt F) X_arg10) (Rect.unit (k0_off3 k) S1x256.size (k0_off3_inb i k k0_h2)))
    v38 (arg12.view.read (Elt F) X_arg12)

/-- Columns `128 j` to `128 j + 127` of a trip's rows. -/
def tileOf (y : FVec F S256x512 .f32) (j : Fin 4) : FVec F S256x128 .f32 :=
  match j with
  | 0 => columns0 y
  | 1 => columns1 y
  | 2 => columns2 y
  | 3 => columns3 y

/-- After `n` trips the base rows' block holds the rows of the sum, as the format takes them. -/
theorem loop_base (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).1, ∀ x, p.2 x = ofRows (fun k => k0_pay4 (accRows i arg17 k0_h2 X_arg17 k)) (p.1.emb x))
      ∧ ∀ y, (y 0).val / 256 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).1, y ∈ p.1.set := by
  induction n with
  | zero => exact ⟨fun p hp => absurd hp List.not_mem_nil, fun y hy => absurd hy (Nat.not_lt_zero _)⟩
  | succ n ih =>
    obtain ⟨ih1, ih2⟩ := ih (by omega)
    have hs : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 (n + 1)).1 = _ := congrArg (fun L => L.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 ⟨n, by omega⟩)
    rw [hs]
    dsimp only
    rw [trip_base]
    refine ⟨fun p hp x => ?_, fun y hy => ?_⟩
    · rcases List.mem_append.mp hp with h | h
      · obtain rfl := List.mem_singleton.mp h
        exact ofRows_piece (fun k => k0_pay4 (accRows i arg17 k0_h2 X_arg17 k)) ⟨n, by omega⟩ (k0_off1_eq _) (k0_off1_inb i _ k0_h2) x
      · exact ih1 p h x
    · by_cases h : (y 0).val / 256 < n
      · obtain ⟨p, hp, hy'⟩ := ih2 y h
        exact ⟨p, List.mem_append_right _ hp, hy'⟩
      · exact ⟨_, List.mem_append_left _ List.mem_cons_self, mem_rows ⟨n, by omega⟩ (k0_off1_eq _) (k0_off1_inb i _ k0_h2) y (by show _ = n; omega)⟩

/-- After `n` trips the update's block holds the trips' updates. -/
theorem loop_update (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.1, ∀ x, p.2 x = ofRows (fun k => updates i arg2 arg3 arg4 arg9 arg10 arg12 k0_h2 v38 X_arg2 X_arg3 X_arg4 X_arg9 X_arg10 X_arg12 k) (p.1.emb x))
      ∧ ∀ y, (y 0).val / 256 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.1, y ∈ p.1.set := by
  induction n with
  | zero => exact ⟨fun p hp => absurd hp List.not_mem_nil, fun y hy => absurd hy (Nat.not_lt_zero _)⟩
  | succ n ih =>
    obtain ⟨ih1, ih2⟩ := ih (by omega)
    have hs : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 (n + 1)).2.1 = _ := congrArg (fun L => L.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 ⟨n, by omega⟩)
    rw [hs]
    dsimp only
    rw [trip_update]
    refine ⟨fun p hp x => ?_, fun y hy => ?_⟩
    · rcases List.mem_append.mp hp with h | h
      · obtain rfl := List.mem_singleton.mp h
        exact ofRows_piece (fun k => updates i arg2 arg3 arg4 arg9 arg10 arg12 k0_h2 v38 X_arg2 X_arg3 X_arg4 X_arg9 X_arg10 X_arg12 k) ⟨n, by omega⟩ (k0_off1_eq _) (k0_off1_inb i _ k0_h2) x
      · exact ih1 p h x
    · by_cases h : (y 0).val / 256 < n
      · obtain ⟨p, hp, hy'⟩ := ih2 y h
        exact ⟨p, List.mem_append_right _ hp, hy'⟩
      · exact ⟨_, List.mem_append_left _ List.mem_cons_self, mem_rows ⟨n, by omega⟩ (k0_off1_eq _) (k0_off1_inb i _ k0_h2) y (by show _ = n; omega)⟩

/-- After `n` trips the codes' block holds the codes of the sums, 128 columns at a time. -/
theorem loop_codes (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.2.1, ∀ x, p.2 x = ofTiles (fun k j => codesBlock (tileOf (addf (accRows i arg17 k0_h2 X_arg17 k) (updates i arg2 arg3 arg4 arg9 arg10 arg12 k0_h2 v38 X_arg2 X_arg3 X_arg4 X_arg9 X_arg10 X_arg12 k)) j)) (p.1.emb x))
      ∧ ∀ y, (y 0).val / 256 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.2.1, y ∈ p.1.set := by
  induction n with
  | zero => exact ⟨fun p hp => absurd hp List.not_mem_nil, fun y hy => absurd hy (Nat.not_lt_zero _)⟩
  | succ n ih =>
    obtain ⟨ih1, ih2⟩ := ih (by omega)
    have hs : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 (n + 1)).2.2.1 = _ := congrArg (fun L => L.2.2.1) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 ⟨n, by omega⟩)
    rw [hs]
    dsimp only
    rw [trip_codes]
    refine ⟨fun p hp x => ?_, fun y hy => ?_⟩
    · rcases List.mem_append.mp hp with h | h
      · simp only [List.mem_cons, List.not_mem_nil, or_false] at h
        rcases h with rfl | rfl | rfl | rfl
        · exact ofTiles_piece (fun k j => codesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 3 (k0_off10_eq _) (k0_off10_inb i _ k0_h2) x
        · exact ofTiles_piece (fun k j => codesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 2 (k0_off8_eq _) (k0_off8_inb i _ k0_h2) x
        · exact ofTiles_piece (fun k j => codesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 1 (k0_off6_eq _) (k0_off6_inb i _ k0_h2) x
        · exact ofTiles_piece (fun k j => codesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 0 (k0_off4_eq _) (k0_off4_inb i _ k0_h2) x
      · exact ih1 p h x
    · by_cases h : (y 0).val / 256 < n
      · obtain ⟨p, hp, hy'⟩ := ih2 y h
        exact ⟨p, List.mem_append_right _ hp, hy'⟩
      · match hj : (⟨(y 1).val / 128, by have h : (y 1).val < 512 := (y 1).isLt; omega⟩ : Fin 4) with
        | ⟨0, h⟩ => exact ⟨_, List.mem_append_left _ (List.mem_cons_of_mem _ (List.mem_cons_of_mem _ (List.mem_cons_of_mem _ (List.mem_cons_self)))), mem_tiles ⟨n, by omega⟩ 0 (k0_off4_eq _) (k0_off4_inb i _ k0_h2) y (by show _ = n; omega) (congrArg Fin.val hj)⟩
        | ⟨1, h⟩ => exact ⟨_, List.mem_append_left _ (List.mem_cons_of_mem _ (List.mem_cons_of_mem _ (List.mem_cons_self))), mem_tiles ⟨n, by omega⟩ 1 (k0_off6_eq _) (k0_off6_inb i _ k0_h2) y (by show _ = n; omega) (congrArg Fin.val hj)⟩
        | ⟨2, h⟩ => exact ⟨_, List.mem_append_left _ (List.mem_cons_of_mem _ (List.mem_cons_self)), mem_tiles ⟨n, by omega⟩ 2 (k0_off8_eq _) (k0_off8_inb i _ k0_h2) y (by show _ = n; omega) (congrArg Fin.val hj)⟩
        | ⟨3, h⟩ => exact ⟨_, List.mem_append_left _ (List.mem_cons_self), mem_tiles ⟨n, by omega⟩ 3 (k0_off10_eq _) (k0_off10_inb i _ k0_h2) y (by show _ = n; omega) (congrArg Fin.val hj)⟩

/-- After `n` trips the scales' block holds the scales of the sums, one row for 128 columns. -/
theorem loop_scales (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.2.2, ∀ x, p.2 x = ofLanes (fun k j => scalesBlock (tileOf (addf (accRows i arg17 k0_h2 X_arg17 k) (updates i arg2 arg3 arg4 arg9 arg10 arg12 k0_h2 v38 X_arg2 X_arg3 X_arg4 X_arg9 X_arg10 X_arg12 k)) j)) (p.1.emb x))
      ∧ ∀ y, (y 2).val / 256 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 n).2.2.2, y ∈ p.1.set := by
  induction n with
  | zero => exact ⟨fun p hp => absurd hp List.not_mem_nil, fun y hy => absurd hy (Nat.not_lt_zero _)⟩
  | succ n ih =>
    obtain ⟨ih1, ih2⟩ := ih (by omega)
    have hs : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 (n + 1)).2.2.2 = _ := congrArg (fun L => L.2.2.2) (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v38 X_arg2 X_arg3 X_arg4 X_arg9 X_arg10 X_arg12 X_arg17 ⟨n, by omega⟩)
    rw [hs]
    dsimp only
    rw [trip_scales]
    refine ⟨fun p hp x => ?_, fun y hy => ?_⟩
    · rcases List.mem_append.mp hp with h | h
      · simp only [List.mem_cons, List.not_mem_nil, or_false] at h
        rcases h with rfl | rfl | rfl | rfl
        · exact ofLanes_piece (fun k j => scalesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 3 (k0_off11_eq _) (k0_off11_inb i _ k0_h2) x
        · exact ofLanes_piece (fun k j => scalesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 2 (k0_off9_eq _) (k0_off9_inb i _ k0_h2) x
        · exact ofLanes_piece (fun k j => scalesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 1 (k0_off7_eq _) (k0_off7_inb i _ k0_h2) x
        · exact ofLanes_piece (fun k j => scalesBlock (tileOf (addf (accRows i arg17 k0_h2 X_arg17 k) (updates i arg2 arg3 arg4 arg9 arg10 arg12 k0_h2 v38 X_arg2 X_arg3 X_arg4 X_arg9 X_arg10 X_arg12 k)) j)) ⟨n, by omega⟩ 0 (k0_off5_eq _) (k0_off5_inb i _ k0_h2) x
      · exact ih1 p h x
    · by_cases h : (y 2).val / 256 < n
      · obtain ⟨p, hp, hy'⟩ := ih2 y h
        exact ⟨p, List.mem_append_right _ hp, hy'⟩
      · match hj : (y 1 : Fin 4) with
        | ⟨0, h⟩ => exact ⟨_, List.mem_append_left _ (List.mem_cons_of_mem _ (List.mem_cons_of_mem _ (List.mem_cons_of_mem _ (List.mem_cons_self)))), mem_lanes ⟨n, by omega⟩ 0 (k0_off5_eq _) (k0_off5_inb i _ k0_h2) y (congrArg Fin.val hj) (by show _ = n; omega)⟩
        | ⟨1, h⟩ => exact ⟨_, List.mem_append_left _ (List.mem_cons_of_mem _ (List.mem_cons_of_mem _ (List.mem_cons_self))), mem_lanes ⟨n, by omega⟩ 1 (k0_off7_eq _) (k0_off7_inb i _ k0_h2) y (congrArg Fin.val hj) (by show _ = n; omega)⟩
        | ⟨2, h⟩ => exact ⟨_, List.mem_append_left _ (List.mem_cons_of_mem _ (List.mem_cons_self)), mem_lanes ⟨n, by omega⟩ 2 (k0_off9_eq _) (k0_off9_inb i _ k0_h2) y (congrArg Fin.val hj) (by show _ = n; omega)⟩
        | ⟨3, h⟩ => exact ⟨_, List.mem_append_left _ (List.mem_cons_self), mem_lanes ⟨n, by omega⟩ 3 (k0_off11_eq _) (k0_off11_inb i _ k0_h2) y (congrArg Fin.val hj) (by show _ = n; omega)⟩

end

end Cert.KernelIdeal.Gen

end
-- ==== Proof.Outs.lean ====
/-
  What one grid point leaves in the accumulator and, at the last point of a sweep, in the four results' blocks, as
  functions of the point's input blocks and of the accumulator before it.
-/
module

public import proofs.«01_k».proof.Proof.Loop
public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.ValueIdx

variable {F : FTy → Type} [FloatOps F]

theorem zeros2 : (![0, 0] : Fin 2 → ℕ) = fun _ => 0 := by decide
theorem zeros3 : (![0, 0, 0] : Fin 3 → ℕ) = fun _ => 0 := by decide

/-- The rows of trip `k` of an array of 2048 rows. -/
def rowsOf (acc : Vec F S2048x512 .f32) (k : Fin k0_t1_loop.trips) : Vec F S256x512 .f32 := fun x =>
  acc (ValueIdx.ix2 (⟨256 * k.val + (x 0).val, by have h : k.val < 8 := trips_eq ▸ k.isLt; have h' : (x 0).val < 256 := (x 0).isLt; omega⟩ : Fin 2048) (x 1))

/-- The lanes of trip `k` of the transposed codes. -/
def codesAt (x : Vec F S16x2048 .fp8e4m3) (k : Fin k0_t1_loop.trips) : Vec F S16x256 .fp8e4m3 := fun y =>
  x (ValueIdx.ix2 (y 0) (⟨256 * k.val + (y 1).val, by have h : k.val < 8 := trips_eq ▸ k.isLt; have h' : (y 1).val < 256 := (y 1).isLt; omega⟩ : Fin 2048))

/-- The lanes of trip `k` of the rows' scales. -/
def scalesAt (x : Vec F S1x2048 .f32) (k : Fin k0_t1_loop.trips) : Vec F S1x256 .f32 := fun y =>
  x (ValueIdx.ix2 (y 0) (⟨256 * k.val + (y 1).val, by have h : k.val < 8 := trips_eq ▸ k.isLt; have h' : (y 1).val < 256 := (y 1).isLt; omega⟩ : Fin 2048))

theorem ld_rows (acc : Vec F S2048x512 .f32) (k : Fin k0_t1_loop.trips) (inb : ∀ a, k0_off1 k a + (![256, 512] : Fin 2 → ℕ) a ≤ S2048x512.size a) :
    View.ld acc (Rect.unit (k0_off1 k) ![256, 512] inb) = rowsOf acc k := by
  refine funext fun x => congrArg acc (funext fun a => Fin.ext ?_)
  have e0 : k0_off1 k 0 = _ := congrFun (k0_off1_eq k) 0
  have e1 : k0_off1 k 1 = _ := congrFun (k0_off1_eq k) 1
  match a with
  | ⟨0, _⟩ => exact (congrArg (· + 1 * _) e0).trans (by show 256 * k.val + 1 * (x 0).val = 256 * k.val + (x 0).val; omega)
  | ⟨1, _⟩ => exact (congrArg (· + 1 * _) e1).trans (by show 0 + 1 * (x 1).val = (x 1).val; omega)

theorem ld_codes (x : Vec F S16x2048 .fp8e4m3) (k : Fin k0_t1_loop.trips) (inb : ∀ a, k0_off2 k a + (![16, 256] : Fin 2 → ℕ) a ≤ S16x2048.size a) :
    View.ld x (Rect.unit (k0_off2 k) ![16, 256] inb) = codesAt x k := by
  refine funext fun y => congrArg x (funext fun a => Fin.ext ?_)
  have e0 : k0_off2 k 0 = _ := congrFun (k0_off2_eq k) 0
  have e1 : k0_off2 k 1 = _ := congrFun (k0_off2_eq k) 1
  match a with
  | ⟨0, _⟩ => exact (congrArg (· + 1 * _) e0).trans (by show 0 + 1 * (y 0).val = (y 0).val; omega)
  | ⟨1, _⟩ => exact (congrArg (· + 1 * _) e1).trans (by show 256 * k.val + 1 * (y 1).val = 256 * k.val + (y 1).val; omega)

theorem ld_scales (x : Vec F S1x2048 .f32) (k : Fin k0_t1_loop.trips) (inb : ∀ a, k0_off3 k a + (![1, 256] : Fin 2 → ℕ) a ≤ S1x2048.size a) :
    View.ld x (Rect.unit (k0_off3 k) ![1, 256] inb) = scalesAt x k := by
  refine funext fun y => congrArg x (funext fun a => Fin.ext ?_)
  have e0 : k0_off3 k 0 = _ := congrFun (k0_off3_eq k) 0
  have e1 : k0_off3 k 1 = _ := congrFun (k0_off3_eq k) 1
  match a with
  | ⟨0, _⟩ => exact (congrArg (· + 1 * _) e0).trans (by show 0 + 1 * (y 0).val = (y 0).val; omega)
  | ⟨1, _⟩ => exact (congrArg (· + 1 * _) e1).trans (by show 256 * k.val + 1 * (y 1).val = 256 * k.val + (y 1).val; omega)

/-- The base rows' block. -/
def baseBlock (acc : Vec F S2048x512 .f32) : Vec F S2048x512 .bf16 := ofRows fun k => k0_pay4 (rowsOf acc k)

/-- The update of trip `k`, from the blocks. -/
def updateOf (x0 : Vec F S41 .i32) (x1 : Vec F S40 .i32) (x2 : Vec F S52 .f32) (x7 : Vec F S16x2048 .fp8e4m3) (x8 : Vec F S1x2048 .f32)
    (x9 : Vec F S52x16x512 .fp8e4m3) (x10 : Vec F S52x512 .f32) (k : Fin k0_t1_loop.trips) : FVec F S256x512 .f32 :=
  updateRows k (startWord (F := F) x0) (adapterWord (F := F) x1) (scaleEntry x2) (codesAt x7 k) (scalesAt x8 k) x9 x10

/-- The update's block. -/
def updateBlock (x0 : Vec F S41 .i32) (x1 : Vec F S40 .i32) (x2 : Vec F S52 .f32) (x7 : Vec F S16x2048 .fp8e4m3) (x8 : Vec F S1x2048 .f32)
    (x9 : Vec F S52x16x512 .fp8e4m3) (x10 : Vec F S52x512 .f32) : Vec F S2048x512 .f32 := ofRows (updateOf x0 x1 x2 x7 x8 x9 x10)

/-- The codes' block. -/
def codeTiles (acc : Vec F S2048x512 .f32) (u : Fin k0_t1_loop.trips → FVec F S256x512 .f32) : Vec F S2048x512 .fp8e4m3 :=
  ofTiles fun k j => codesBlock (tileOf (addf (rowsOf acc k) (u k)) j)

/-- The scales' block. -/
def scaleLanes (acc : Vec F S2048x512 .f32) (u : Fin k0_t1_loop.trips → FVec F S256x512 .f32) : Vec F S1x4x2048 .f32 :=
  ofLanes fun k j => scalesBlock (tileOf (addf (rowsOf acc k) (u k)) j)

/-- The base rows' block at the end of a sweep. -/
theorem out_base (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = baseBlock (k0_pay169 x4 x5 x6 xs0 x3) := by
  funext y
  unfold out0_C_11 kernelRun0_C
  dsimp only
  sl_unfold_run_names
  have hy : (y 0).val / 256 < k0_t1_loop.trips := by rw [trips_eq]; have h : (y 0).val < 2048 := (y 0).isLt; omega
  refine (View.read_writes_apply_of_pieces _ _ _ _ (loop_base Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).1 y ((loop_base Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).2 y hy)).trans ?_
  unfold baseBlock
  simp only [accRows, updates, View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_unit_zero (S := S2048x512) zeros2, ld_rows, ld_codes, ld_scales]

/-- The update's block at the end of a sweep. -/
theorem out_update (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = updateBlock x0 x1 x2 x7 x8 x9 x10 := by
  funext y
  unfold out0_C_12 kernelRun0_C
  dsimp only
  sl_unfold_run_names
  have hy : (y 0).val / 256 < k0_t1_loop.trips := by rw [trips_eq]; have h : (y 0).val < 2048 := (y 0).isLt; omega
  refine (View.read_writes_apply_of_pieces _ _ _ _ (loop_update Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).1 y ((loop_update Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).2 y hy)).trans ?_
  unfold updateBlock updateOf
  simp only [accRows, updates, View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_unit_zero (S := S2048x512) zeros2, ld_rows, ld_codes, ld_scales]

/-- The codes' block at the end of a sweep. -/
theorem out_codes (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = codeTiles (k0_pay169 x4 x5 x6 xs0 x3) (updateOf x0 x1 x2 x7 x8 x9 x10) := by
  funext y
  unfold out0_C_13 kernelRun0_C
  dsimp only
  sl_unfold_run_names
  have hy : (y 0).val / 256 < k0_t1_loop.trips := by rw [trips_eq]; have h : (y 0).val < 2048 := (y 0).isLt; omega
  refine (View.read_writes_apply_of_pieces _ _ _ _ (loop_codes Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).1 y ((loop_codes Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).2 y hy)).trans ?_
  unfold codeTiles updateOf
  simp only [accRows, updates, View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_unit_zero (S := S2048x512) zeros2, ld_rows, ld_codes, ld_scales]

/-- The scales' block at the end of a sweep. -/
theorem out_scales (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = scaleLanes (k0_pay169 x4 x5 x6 xs0 x3) (updateOf x0 x1 x2 x7 x8 x9 x10) := by
  funext y
  unfold out0_C_14 kernelRun0_C
  dsimp only
  sl_unfold_run_names
  have hy : (y 2).val / 256 < k0_t1_loop.trips := by rw [trips_eq]; have h : (y 2).val < 2048 := (y 2).isLt; omega
  refine (View.read_writes_apply_of_pieces _ _ _ _ (loop_scales Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).1 y ((loop_scales Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ k0_t1_loop.trips le_rfl).2 y hy)).trans ?_
  unfold scaleLanes updateOf
  simp only [accRows, updates, View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_unit_zero (S := S2048x512) zeros2, ld_rows, ld_codes, ld_scales]

/-- The accumulator after the first point of a sweep. -/
theorem sout_A (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : cond0_0 i) (hc1 : ¬cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = k0_pay169 x4 x5 x6 k0_pay168 x3 := by
  unfold sout0_A_0 kernelRun0_A
  dsimp only
  sl_unfold_run_names
  simp only [View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_cons_unit_zero (S := S2048x512) zeros2, View.readCov_unit_zero (S := S2048x512) _ zeros2]

/-- The accumulator after an inner point of a sweep. -/
theorem sout_B (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : ¬cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = k0_pay169 x4 x5 x6 xs0 x3 := by
  unfold sout0_B_0 kernelRun0_B
  dsimp only
  sl_unfold_run_names
  simp only [View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_cons_unit_zero (S := S2048x512) zeros2, View.readCov_unit_zero (S := S2048x512) _ zeros2]

/-- The accumulator after the last point of a sweep. -/
theorem sout_C (c : Dev nD) (i : grid0.Coords) (arg2 : Memref sig .tc .smem S41 .i32) (harg2 : arg2.IsWhole) (arg3 : Memref sig .tc .smem S40 .i32) (harg3 : arg3.IsWhole) (arg4 : Memref sig .tc .smem S52 .f32) (harg4 : arg4.IsWhole) (arg5 : Memref sig .tc .vmem S2048x512 .bf16) (harg5 : arg5.IsWhole) (arg6 : Memref sig .tc .vmem S64x512 .i32) (harg6 : arg6.IsWhole) (arg7 : Memref sig .tc .vmem S1x4x512 .i32) (harg7 : arg7.IsWhole) (arg8 : Memref sig .tc .vmem S1x4x512 .f16) (harg8 : arg8.IsWhole) (arg9 : Memref sig .tc .vmem S16x2048 .fp8e4m3) (harg9 : arg9.IsWhole) (arg10 : Memref sig .tc .vmem S1x2048 .f32) (harg10 : arg10.IsWhole) (arg11 : Memref sig .tc .vmem S52x16x512 .fp8e4m3) (harg11 : arg11.IsWhole) (arg12 : Memref sig .tc .vmem S52x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2048x512 .fp8e4m3) (harg15 : arg15.IsWhole) (arg16 : Memref sig .tc .vmem S1x4x2048 .f32) (harg16 : arg16.IsWhole) (arg17 : Memref sig .tc .vmem S2048x512 .f32) (harg17 : arg17.IsWhole) (hc0 : ¬cond0_0 i) (hc1 : cond0_1 i)
    (x0 : Vec F S41 .i32) (x1 : Vec F S40 .i32) (x2 : Vec F S52 .f32) (x3 : Vec F S2048x512 .bf16) (x4 : Vec F S64x512 .i32) (x5 : Vec F S1x4x512 .i32) (x6 : Vec F S1x4x512 .f16) (x7 : Vec F S16x2048 .fp8e4m3) (x8 : Vec F S1x2048 .f32) (x9 : Vec F S52x16x512 .fp8e4m3) (x10 : Vec F S52x512 .f32) (xs0 : Vec F S2048x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xs0 = k0_pay169 x4 x5 x6 xs0 x3 := by
  unfold sout0_C_0 kernelRun0_C
  dsimp only
  sl_unfold_run_names
  simp only [View.readAt_eq_ld, Memref.IsWhole.read_unread, View.ld_unit_zero (S := S2048x512) zeros2, View.ld_unit_zero (S := S64x512) zeros2, View.ld_unit_zero (S := S1x4x512) zeros3, View.ld_unit_zero (S := S52x16x512) zeros3, View.read_writes_junk_eq_canon, View.canon_cons_unit_zero (S := S2048x512) zeros2, View.readCov_unit_zero (S := S2048x512) _ zeros2]

end Cert.KernelIdeal.Gen

end
-- ==== Proof.Fold.lean ====
/-
  The fold over the grid: the accumulator after each point from the one before it, and the four results' arrays at an
  index, as what the last point of that index's sweep computes from the accumulator it ends with.
-/
module

public import proofs.«01_k».proof.Proof.Outs

@[expose] public section

set_option maxRecDepth 16384

noncomputable section

namespace Cert.KernelIdeal.Gen

open Cert.KernelIdeal.Value Idealize.ShloMosaic Idealize.ShloMosaic.TcCoe Idealize.ShloMosaic.ValueIdx

variable {F : FTy → Type} [FloatOps F]
variable (m : (l : Loc nD τ sig) → Buf (Elt F) l)

/-- The accumulator after point `n`. -/
def accAfter (c : Dev nD) (n : ℕ) (h : n < cfg0.N) : Vec F S2048x512 .f32 := (outsAt0 m c n h).2.2.2.2

/-- The first point of a sweep starts from the zero block. -/
theorem accAfter_first (c : Dev nD) (t : Fin cfg0.N) (h0 : t.val % 37 = 0) :
    accAfter m c t.val t.isLt
      = k0_pay169 (iblk m c 4 t) (iblk m c 5 t) (iblk m c 6 t) k0_pay168 (iblk m c 3 t) := by
  obtain ⟨n, hn⟩ := t
  have h1 : ¬ n % 37 = 36 := fun h => by dsimp only at h0; omega
  unfold accAfter
  cases n with
  | zero =>
    rw [outsAt0_zero m c hn, stAt0_A m c ⟨0, hn⟩ _ h0 h1]
    dsimp only
    rw [sout_A]
  | succ n =>
    rw [outsAt0_succ m c n hn, stAt0_A m c ⟨n + 1, hn⟩ _ h0 h1]
    dsimp only
    rw [sout_A]

/-- Every other point adds its product to the accumulator of the point before it. -/
theorem accAfter_next (c : Dev nD) (n : ℕ) (h : n + 1 < cfg0.N) (h0 : ¬ (n + 1) % 37 = 0) :
    accAfter m c (n + 1) h
      = k0_pay169 (iblk m c 4 ⟨n + 1, h⟩) (iblk m c 5 ⟨n + 1, h⟩) (iblk m c 6 ⟨n + 1, h⟩)
          (accAfter m c n (Nat.lt_of_succ_lt h)) (iblk m c 3 ⟨n + 1, h⟩) := by
  unfold accAfter
  by_cases h1 : (n + 1) % 37 = 36
  · rw [outsAt0_succ m c n h, stAt0_C m c ⟨n + 1, h⟩ _ h0 h1]
    dsimp only
    rw [sout_C]
  · rw [outsAt0_succ m c n h, stAt0_B m c ⟨n + 1, h⟩ _ h0 h1]
    dsimp only
    rw [sout_B]

/-- The update of trip `k` at point `t`. -/
def updateAt (c : Dev nD) (t : Fin cfg0.N) : Fin k0_t1_loop.trips → FVec F S256x512 .f32 :=
  updateOf (iblk m c 0 t) (iblk m c 1 t) (iblk m c 2 t) (iblk m c 7 t) (iblk m c 8 t) (iblk m c 9 t) (iblk m c 10 t)

/-- The last point of a sweep fills the results' blocks from the accumulator it ends with. -/
theorem outs_last (c : Dev nD) (n : ℕ) (h : n + 1 < cfg0.N) (h1 : (n + 1) % 37 = 36) :
    (outsAt0 m c (n + 1) h).1 = baseBlock (accAfter m c (n + 1) h)
    ∧ (outsAt0 m c (n + 1) h).2.1 = ofRows (updateAt m c ⟨n + 1, h⟩)
    ∧ (outsAt0 m c (n + 1) h).2.2.1 = codeTiles (accAfter m c (n + 1) h) (updateAt m c ⟨n + 1, h⟩)
    ∧ (outsAt0 m c (n + 1) h).2.2.2.1 = scaleLanes (accAfter m c (n + 1) h) (updateAt m c ⟨n + 1, h⟩) := by
  have h0 : ¬ (n + 1) % 37 = 0 := fun h => by omega
  have e := (outsAt0_succ m c n h).trans (stAt0_C m c ⟨n + 1, h⟩ _ h0 h1)
  rw [accAfter_next m c n h h0]
  refine ⟨(congrArg (fun s => s.1) e).trans ?_, (congrArg (fun s => s.2.1) e).trans ?_,
    (congrArg (fun s => s.2.2.1) e).trans ?_, (congrArg (fun s => s.2.2.2.1) e).trans ?_⟩
  · dsimp only
    rw [out_base]
    rfl
  · dsimp only
    rw [out_update]
    rfl
  · dsimp only
    rw [out_codes]
    rfl
  · dsimp only
    rw [out_scales]
    rfl

/-- Result 0's array at an index. -/
theorem G11_eq (c : Dev nD) (i : S2048x3584.Idx) (n : ℕ) (h : n + 1 < cfg0.N) (hn : pt11Of i = n + 1) :
    G11 m c i = baseBlock (accAfter m c (n + 1) h) (loc11Of i) := by
  have hl : (n + 1) % 37 = 36 := by rw [← hn]; dsimp only [pt11Of]; omega
  unfold G11
  rw [dif_pos (hn ▸ h)]
  rw [← (outs_last m c n h hl).1, outsAt0_sweep]
  exact congrFun (congrArg (fun s => s.1) (fold0_congr m c _ _ _ _ hn)) _

/-- Result 1's array at an index. -/
theorem G12_eq (c : Dev nD) (i : S2048x3584.Idx) (n : ℕ) (h : n + 1 < cfg0.N) (hn : pt12Of i = n + 1) :
    G12 m c i = ofRows (updateAt m c ⟨n + 1, h⟩) (loc12Of i) := by
  have hl : (n + 1) % 37 = 36 := by rw [← hn]; dsimp only [pt12Of]; omega
  unfold G12
  rw [dif_pos (hn ▸ h)]
  rw [← (outs_last m c n h hl).2.1, outsAt0_sweep]
  exact congrFun (congrArg (fun s => s.2.1) (fold0_congr m c _ _ _ _ hn)) _

/-- Result 2's array at an index. -/
theorem G13_eq (c : Dev nD) (i : S2048x3584.Idx) (n : ℕ) (h : n + 1 < cfg0.N) (hn : pt13Of i = n + 1) :
    G13 m c i = codeTiles (accAfter m c (n + 1) h) (updateAt m c ⟨n + 1, h⟩) (loc13Of i) := by
  have hl : (n + 1) % 37 = 36 := by rw [← hn]; dsimp only [pt13Of]; omega
  unfold G13
  rw [dif_pos (hn ▸ h)]
  rw [← (outs_last m c n h hl).2.2.1, outsAt0_sweep]
  exact congrFun (congrArg (fun s => s.2.2.1) (fold0_congr m c _ _ _ _ hn)) _

/-- Result 3's array at an index. -/
theorem G14_eq (c : Dev nD) (i : S7x4x2048.Idx) (n : ℕ) (h : n + 1 < cfg0.N) (hn : pt14Of i = n + 1) :
    G14 m c i = scaleLanes (accAfter m c (n + 1) h) (updateAt m c ⟨n + 1, h⟩) (loc14Of i) := by
  have hl : (n + 1) % 37 = 36 := by rw [← hn]; dsimp only [pt14Of]; omega
  unfold G14
  rw [dif_pos (hn ▸ h)]
  rw [← (outs_last m c n h hl).2.2.2, outsAt0_sweep]
  exact congrFun (congrArg (fun s => s.2.2.2.1) (fold0_congr m c _ _ _ _ hn)) _

end Cert.KernelIdeal.Gen
-- ==== Proof.Reads.lean ====
/-
  The kernel's input blocks at a grid point, at an index, as entries of the arguments' arrays.
-/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe

variable {F : FTy → Type} [FloatOps F]
variable (m : (l : Loc nD τ sig) → Buf (Elt F) l)

/-- Every input window's block index at a point. -/
theorem idx : ∀ t : Fin cfg0.N, win0_0.index t = ![0] ∧ win0_1.index t = ![0] ∧ win0_2.index t = ![0]
    ∧ win0_3.index t = ![0, t.val % 37] ∧ win0_4.index t = ![t.val % 37, t.val / 37]
    ∧ win0_5.index t = ![t.val % 37, 0, t.val / 37] ∧ win0_6.index t = ![t.val % 37, 0, t.val / 37]
    ∧ win0_7.index t = ![0, 0] ∧ win0_8.index t = ![0, 0]
    ∧ win0_9.index t = ![0, 0, t.val / 37] ∧ win0_10.index t = ![0, t.val / 37] :=
  (by decide +kernel : ∀ t : Fin grid0.N, _)

/-- The segments' starts are read whole. -/
theorem iblk_starts (c : Dev nD) (t : Fin cfg0.N) : iblk m c 0 t = m ((c : Thread nD τ).loc main_arg7) := by
  blk_ext! [iblk, V, idx t]

/-- The segments' adapters are read whole. -/
theorem iblk_adapters (c : Dev nD) (t : Fin cfg0.N) : iblk m c 1 t = m ((c : Thread nD τ).loc main_arg8) := by
  blk_ext! [iblk, V, idx t]

/-- The adapters' scales are read whole. -/
theorem iblk_scales (c : Dev nD) (t : Fin cfg0.N) : iblk m c 2 t = m ((c : Thread nD τ).loc main_arg6) := by
  blk_ext! [iblk, V, idx t]

/-- The codes are read whole. -/
theorem iblk_codes (c : Dev nD) (t : Fin cfg0.N) : iblk m c 7 t = m ((c : Thread nD τ).loc main_arg9) := by
  blk_ext! [iblk, V, idx t]

/-- The codes' scales are read whole. -/
theorem iblk_us (c : Dev nD) (t : Fin cfg0.N) : iblk m c 8 t = m ((c : Thread nD τ).loc main_arg10) := by
  blk_ext! [iblk, V, idx t]

/-- The block of `x` at a point: 512 of its columns. -/
theorem iblk_x (c : Dev nD) (t : Fin cfg0.N) (r : Fin 2048) (d : Fin 512) (d' : Fin 18944) (h : d'.val = 512 * (t.val % 37) + d.val) :
    iblk m c 3 t (ix2 r d) = m ((c : Thread nD τ).loc main_arg0) (ix2 r d') := by
  blk_ext [iblk, V, idx t]

/-- The block of packed weights at a point. -/
theorem iblk_w (c : Dev nD) (t : Fin cfg0.N) (a : Fin 64) (b : Fin 512) (a' : Fin 2368) (b' : Fin 3584)
    (ha : a'.val = 64 * (t.val % 37) + a.val) (hb : b'.val = 512 * (t.val / 37) + b.val) :
    iblk m c 4 t (ix2 a b) = m ((c : Thread nD τ).loc main_arg1) (ix2 a' b') := by
  blk_ext [iblk, V, idx t]

/-- The block of factors at a point. -/
theorem iblk_b (c : Dev nD) (t : Fin cfg0.N) (e : Fin 52) (a : Fin 16) (b : Fin 512) (b' : Fin 3584)
    (hb : b'.val = 512 * (t.val / 37) + b.val) :
    iblk m c 9 t (ix3 e a b) = m ((c : Thread nD τ).loc main_arg4) (ix3 e a b') := by
  blk_ext [iblk, V, idx t]

/-- The block of the factors' scales at a point. -/
theorem iblk_bs (c : Dev nD) (t : Fin cfg0.N) (e : Fin 52) (b : Fin 512) (b' : Fin 3584)
    (hb : b'.val = 512 * (t.val / 37) + b.val) :
    iblk m c 10 t (ix2 e b) = m ((c : Thread nD τ).loc main_arg5) (ix2 e b') := by
  blk_ext [iblk, V, idx t]

/-- The block of the groups' scales at a point. -/
theorem iblk_s (c : Dev nD) (t : Fin cfg0.N) (g : Fin 4) (b : Fin 512) (g' : Fin 148) (b' : Fin 3584)
    (hg : g'.val = 4 * (t.val % 37) + g.val) (hb : b'.val = 512 * (t.val / 37) + b.val) :
    iblk m c 6 t (ix3 0 g b) = m ((c : Thread nD τ).loc main_arg3) (ix2 g' b') := by
  refine (?_ : _ = V m c main_v11 (ix3 (⟨t.val % 37, Nat.mod_lt _ (by decide)⟩ : Fin 37) g b')).trans ?_
  · blk_ext [iblk, idx t]
  · entry_read
    pointwise
    blk_ext []

/-- The block of the groups' zero points at a point: fields of the packed words. -/
theorem iblk_z (c : Dev nD) (t : Fin cfg0.N) (g : Fin 4) (b : Fin 512) (g' : Fin 148) (w : Fin 448) (j : Fin 8)
    (hg : g'.val = 4 * (t.val % 37) + g.val) (hb : 8 * w.val + j.val = 512 * (t.val / 37) + b.val) :
    (iblk m c 5 t (ix3 0 g b) : BitVec 32)
      = IntOp.andi (IntOp.shrsi .host (m ((c : Thread nD τ).loc main_arg2) (ix2 g' w)) (IntOp.muli 4#32 (BitVec.ofNat 32 j.val))) 15#32 := by
  have hN : t.val < 259 := t.isLt
  have hw := w.isLt; have hj := j.isLt; have hg2 := g'.isLt; have hb2 := b.isLt
  refine (?_ : _ = V m c main_v10 (ix3 (⟨t.val % 37, Nat.mod_lt _ (by decide)⟩ : Fin 37) g (⟨512 * (t.val / 37) + b.val, by omega⟩ : Fin 3584))).trans ?_
  · blk_ext [iblk, idx t]
  · entry_read
    pointwise
    have e : (512 * (t.val / 37) + b.val) % 8 = j.val := by omega
    refine congrArg₂ IntOp.andi (congrArg₂ (IntOp.shrsi .host) ?_ (by rw [e])) rfl
    blk_ext []

end Cert.KernelIdeal.Gen
-- ==== Proof.Acc.lean ====
/-
  One step of the accumulator over the extended reals: the block product of a point, read at an index.
-/
module

public import proofs.«01_k».proof.Proof.Fold
public import proofs.«01_k».proof.Proof.Reads
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gen

open Cert.MultiLora Idealize.ShloMosaic Idealize.ShloMosaic.TcCoe

/-- The accumulator starts at zero. -/
theorem zeroBlock_apply (r : Fin 2048) (n : Fin 512) : (k0_pay168 (F := Ideal)) (ix2 r n) = 0 := by
  unfold_payloads
  pointwise

/-- A point's step adds, at row `r` and column `n`, the products over the point's 512 places of the shared axis. -/
theorem step_apply (w : Vec Ideal S64x512 .i32) (z : Vec Ideal S1x4x512 .i32) (s : Vec Ideal S1x4x512 .f16)
    (acc : Vec Ideal S2048x512 .f32) (x : Vec Ideal S2048x512 .bf16) (r : Fin 2048) (n : Fin 512) :
    k0_pay169 w z s acc x (ix2 r n) = acc (ix2 r n) + ∑ d : Fin 512, x (ix2 r d)
      * weight (field (w (ix2 (⟨d.val / 8, by omega⟩ : Fin 64) n)) (d.val % 8))
          (z (ix3 0 (⟨d.val / 128, by omega⟩ : Fin 4) n)) (s (ix3 0 (⟨d.val / 128, by omega⟩ : Fin 4) n)) := by
  unfold_payloads
  pointwise
  refine congrArg (acc (ix2 r n) + ·) (Finset.sum_congr rfl fun d _ => ?_)
  have hd := d.isLt
  rw [logical_field _ _ (by omega)]
  unfold weight
  refine congrArg₂ (· * ·) rfl (congrArg₂ (· * ·) (congrArg (FloatOps.sitofp .f32) (congrArg₂ IntOp.subi
    (congrArg₂ field (congrArg (fun a => w (ix2 a n)) (Fin.ext ?_)) ?_) rfl)) rfl)
  · dsimp only
    omega
  · omega

variable (m : (l : Loc nD τ sig) → Buf (Elt Ideal) l)

/-- The step of point `n`, at row `r` and column `b` of the sweep's columns. -/
theorem step_at (c : Dev nD) (r : Fin 2048) (b : Fin 512) (b' : Fin 3584) (n : ℕ) (h : n < cfg0.N)
    (hn : b'.val = 512 * (n / 37) + b.val) (acc : Vec Ideal S2048x512 .f32) : k0_pay169 (iblk m c 4 ⟨n, h⟩) (iblk m c 5 ⟨n, h⟩)
    (iblk m c 6 ⟨n, h⟩) acc (iblk m c 3 ⟨n, h⟩) (ix2 r b) = acc (ix2 r b) + ∑ D ∈ Finset.range 512, baseTerm
      (m ((c : Thread nD τ).loc main_arg0)) (m ((c : Thread nD τ).loc main_arg1)) (m ((c : Thread nD τ).loc main_arg2))
      (m ((c : Thread nD τ).loc main_arg3)) r b' (512 * (n % 37) + D) := by
  have hb := b.isLt
  have hb' := b'.isLt
  have hN : n < 259 := h
  rw [step_apply, Finset.sum_range]
  refine congrArg (acc (ix2 r b) + ·) (Finset.sum_congr rfl fun d _ => ?_)
  have hd := d.isLt
  unfold baseTerm
  rw [dif_pos (show 512 * (n % 37) + d.val < 18944 by omega)]
  rw [iblk_x m c ⟨n, h⟩ r d ⟨512 * (n % 37) + d.val, by omega⟩ rfl,
    iblk_w m c ⟨n, h⟩ ⟨d.val / 8, by omega⟩ b ⟨(512 * (n % 37) + d.val) / 8, by omega⟩ b' (by dsimp only; omega) hn,
    iblk_z m c ⟨n, h⟩ ⟨d.val / 128, by omega⟩ b ⟨(512 * (n % 37) + d.val) / 128, by omega⟩ ⟨b'.val / 8, by omega⟩
      ⟨b'.val % 8, by omega⟩ (by dsimp only; omega) (by dsimp only; omega),
    iblk_s m c ⟨n, h⟩ ⟨d.val / 128, by omega⟩ b ⟨(512 * (n % 37) + d.val) / 128, by omega⟩ b' (by dsimp only; omega) hn,
    show d.val % 8 = (512 * (n % 37) + d.val) % 8 by omega]
  rfl

/-- After point `n` the accumulator holds, at row `r` and its column `b` of the sweep's columns, the products over the
    places of the shared axis that the sweep has met. -/
theorem accAfter_apply (c : Dev nD) (r : Fin 2048) (b : Fin 512) (b' : Fin 3584) : ∀ (n : ℕ) (h : n < cfg0.N),
    b'.val = 512 * (n / 37) + b.val → accAfter m c n h (ix2 r b) = ∑ D ∈ Finset.range (512 * (n % 37) + 512), baseTerm
      (m ((c : Thread nD τ).loc main_arg0)) (m ((c : Thread nD τ).loc main_arg1)) (m ((c : Thread nD τ).loc main_arg2))
      (m ((c : Thread nD τ).loc main_arg3)) r b' D := by
  intro n
  induction n with
  | zero =>
    intro h hn
    rw [accAfter_first m c ⟨0, h⟩ rfl, step_at m c r b b' _ h hn, zeroBlock_apply, zero_add]
    simp only [Nat.zero_mod, Nat.mul_zero, Nat.zero_add]
  | succ n ih =>
    intro h hn
    by_cases h0 : (n + 1) % 37 = 0
    · rw [accAfter_first m c ⟨n + 1, h⟩ h0, step_at m c r b b' _ h hn, zeroBlock_apply, zero_add, h0]
      simp only [Nat.mul_zero, Nat.zero_add]
    · have e : (n + 1) % 37 = n % 37 + 1 := by omega
      rw [accAfter_next m c n h h0, step_at m c r b b' _ h hn, ih _ (by omega), e, Nat.mul_add, Nat.mul_one]
      exact (Finset.sum_range_add ..).symm

/-- At the end of its sweep the accumulator holds the base product. -/
theorem accAfter_last (c : Dev nD) (r : Fin 2048) (b : Fin 512) (b' : Fin 3584) (n : ℕ) (h : n < cfg0.N) (hl : n % 37 = 36)
    (hb : b'.val = 512 * (n / 37) + b.val) : accAfter m c n h (ix2 r b)
      = base (m ((c : Thread nD τ).loc main_arg0)) (m ((c : Thread nD τ).loc main_arg1)) (m ((c : Thread nD τ).loc main_arg2))
      (m ((c : Thread nD τ).loc main_arg3)) r b' := by
  rw [accAfter_apply m c r b b' n h hb, hl]
  rfl

end Cert.KernelIdeal.Gen
-- ==== Proof.Results.lean ====
/-
  The kernel's four results over the extended reals, read at an index, as functions of the arguments' arrays.
-/
module

public import proofs.«01_k».proof.Proof.Acc
public import proofs.«01_k».proof.Proof.Update
public import proofs.«01_k».proof.Proof.Quant

@[expose] public section

set_option maxRecDepth 16384

noncomputable section

namespace Cert.KernelIdeal.Gen

open Cert.MultiLora Cert.KernelIdeal.Value Idealize.ShloMosaic Idealize.ShloMosaic.TcCoe

variable (m : (l : Loc nD τ sig) → Buf (Elt Ideal) l)

/-- A row's trip and its place in it give the row. -/
theorem row_split (t : Fin 2048) : 256 * (tripOf t).val + (inTrip t).val = t.val := by
  show 256 * (t.val / 256) + t.val % 256 = t.val
  omega

/-- An array made of rows, at an index. -/
theorem ofRows_apply {α : Type} (f : Fin k0_t1_loop.trips → S256x512.Idx → α) (t : Fin 2048) (b : Fin 512) :
    ofRows f (ix2 t b) = f (tripOf t) (ix2 (inTrip t) b) :=
  congrArg (f (tripOf t)) (ix2_eq_valueIdx ..).symm

/-- An array made of tiles, at an index. -/
theorem ofTiles_apply {α : Type} (f : Fin k0_t1_loop.trips → Fin 4 → S256x128.Idx → α) (t : Fin 2048) (b : Fin 512) :
    ofTiles f (ix2 t b) = f (tripOf t) ⟨b.val / 128, by omega⟩ (ix2 (inTrip t) (⟨b.val % 128, by omega⟩ : Fin 128)) :=
  congrArg (f (tripOf t) ⟨b.val / 128, by omega⟩) (ix2_eq_valueIdx ..).symm

/-- An array made of lanes, at an index. -/
theorem ofLanes_apply {α : Type} (f : Fin k0_t1_loop.trips → Fin 4 → S1x1x256.Idx → α) (g : Fin 4) (t : Fin 2048) :
    ofLanes f (ix3 0 g t) = f (tripOf t) g (ix3 0 0 (inTrip t)) :=
  congrArg (f (tripOf t) g) (ix3_eq_valueIdx ..).symm

/-- A trip's rows of an array, at an index. -/
theorem rowsOf_apply (acc : Vec Ideal S2048x512 .f32) (t : Fin 2048) (b : Fin 512) :
    rowsOf acc (tripOf t) (ix2 (inTrip t) b) = acc (ix2 t b) := by
  rw [ix2_eq_valueIdx t b]
  exact congrArg (fun r => acc (ValueIdx.ix2 r b)) (Fin.ext (row_split t))

/-- Tile `j` of a trip's rows, at an index. -/
theorem tileOf_apply (y : FVec Ideal S256x512 .f32) (j : Fin 4) (r : Fin 256) (c : Fin 128) :
    tileOf y j (ix2 r c) = y (ix2 r (⟨128 * j.val + c.val, by omega⟩ : Fin 512)) := by
  match j with
  | 0 => unfold tileOf; pointwise
  | 1 => unfold tileOf; pointwise
  | 2 => unfold tileOf; pointwise
  | 3 => unfold tileOf; pointwise

/-- The adapter word of row `t`. -/
def adapterOf (st : Vec Ideal S41 .i32) (ad : Vec Ideal S40 .i32) (t : Fin 2048) : BitVec 32 :=
  adapterAfter (BitVec.ofNat 32 t.val) (startWord (F := Ideal) st) (adapterWord (F := Ideal) ad) 40

/-- The update at row `t` and column `n`, from the arrays. -/
def updateOfArrays (A : BitVec 32) (b : Vec Ideal S52x16x3584 .fp8e4m3) (bs : Vec Ideal S52x3584 .f32) (ls : Vec Ideal S52 .f32)
    (codes : Vec Ideal S16x2048 .fp8e4m3) (us : Vec Ideal S1x2048 .f32) (t : Fin 2048) (n : Fin 3584) : EReal :=
  update A (fun a => codes (ix2 a t)) (us (ix2 0 t)) (fun e a => b (ix3 e a n)) (fun e => bs (ix2 e n)) (fun e => ls (ix1 e))

/-- The update of a trip at a point, at an index. -/
theorem updateAt_apply (c : Dev nD) (p : Fin cfg0.N) (t : Fin 2048) (b : Fin 512) (n : Fin 3584) (hn : n.val = 512 * (p.val / 37) + b.val)
    (h : (adapterOf (m ((c : Thread nD τ).loc main_arg7)) (m ((c : Thread nD τ).loc main_arg8)) t).toInt < 52) :
    updateAt m c p (tripOf t) (ix2 (inTrip t) b)
      = updateOfArrays (adapterOf (m ((c : Thread nD τ).loc main_arg7)) (m ((c : Thread nD τ).loc main_arg8)) t)
          (m ((c : Thread nD τ).loc main_arg4)) (m ((c : Thread nD τ).loc main_arg5)) (m ((c : Thread nD τ).loc main_arg6))
          (m ((c : Thread nD τ).loc main_arg9)) (m ((c : Thread nD τ).loc main_arg10)) t n := by
  unfold updateAt updateOf
  rw [iblk_starts, iblk_adapters, iblk_scales, iblk_codes, iblk_us]
  have hw : BitVec.ofNat 32 (256 * (tripOf t).val + (inTrip t).val) = BitVec.ofNat 32 t.val := by rw [row_split]
  refine (updateRows_apply _ _ _ _ _ _ _ _ _ _ (by rw [hw]; exact h)).trans ?_
  rw [hw]
  unfold updateOfArrays adapterOf
  congr 1
  · funext a
    exact congrArg (m ((c : Thread nD τ).loc main_arg9)) (congrArg (ix2 a) (Fin.ext (row_split t)))
  · exact congrArg (m ((c : Thread nD τ).loc main_arg10)) (congrArg (ix2 0) (Fin.ext (row_split t)))
  · funext e a
    exact iblk_b m c p e a b n hn
  · funext e
    exact iblk_bs m c p e b n hn
  · funext e
    refine (congrArg (m ((c : Thread nD τ).loc main_arg6)) (congrArg ix1 (Fin.ext ?_)))
    show min e.val 51 = e.val
    omega

/-- The sum of the base product and the update at row `t` and column `n`. -/
def total (c : Dev nD) (t : Fin 2048) (n : Fin 3584) : EReal :=
  base (m ((c : Thread nD τ).loc main_arg0)) (m ((c : Thread nD τ).loc main_arg1)) (m ((c : Thread nD τ).loc main_arg2))
      (m ((c : Thread nD τ).loc main_arg3)) t n
    + updateOfArrays (adapterOf (m ((c : Thread nD τ).loc main_arg7)) (m ((c : Thread nD τ).loc main_arg8)) t)
          (m ((c : Thread nD τ).loc main_arg4)) (m ((c : Thread nD τ).loc main_arg5)) (m ((c : Thread nD τ).loc main_arg6))
          (m ((c : Thread nD τ).loc main_arg9)) (m ((c : Thread nD τ).loc main_arg10)) t n

/-- Result 0 at an index: the base product. -/
theorem G11_apply (c : Dev nD) (t : Fin 2048) (n : Fin 3584) : G11 m c (ix2 t n)
    = base (m ((c : Thread nD τ).loc main_arg0)) (m ((c : Thread nD τ).loc main_arg1)) (m ((c : Thread nD τ).loc main_arg2))
      (m ((c : Thread nD τ).loc main_arg3)) t n := by
  have hn := n.isLt
  have ht := t.isLt
  have hp : pt11Of (ix2 t n) = (37 * (n.val / 512) + 35) + 1 := by
    show 37 * (7 * (t.val / 2048 - 0) + 1 * (n.val / 512 - 0)) + 36 = _
    omega
  have hl : loc11Of (ix2 t n) = ix2 t (⟨n.val % 512, by omega⟩ : Fin 512) := by
    funext a
    match a with
    | ⟨0, _⟩ => exact Fin.ext (Nat.mod_eq_of_lt ht)
    | ⟨1, _⟩ => rfl
  have hN : (37 * (n.val / 512) + 35) + 1 < cfg0.N := by rw [show cfg0.N = 259 from N_0]; omega
  rw [G11_eq m c _ _ hN hp, hl, baseBlock, ofRows_apply]
  refine (rowsOf_apply _ t _).trans ?_
  exact accAfter_last m c t _ n _ hN (by omega) (by dsimp only; omega)

/-- Result 1 at an index: the update. -/
theorem G12_apply (c : Dev nD) (t : Fin 2048) (n : Fin 3584)
    (h : (adapterOf (m ((c : Thread nD τ).loc main_arg7)) (m ((c : Thread nD τ).loc main_arg8)) t).toInt < 52) : G12 m c (ix2 t n)
    = updateOfArrays (adapterOf (m ((c : Thread nD τ).loc main_arg7)) (m ((c : Thread nD τ).loc main_arg8)) t)
          (m ((c : Thread nD τ).loc main_arg4)) (m ((c : Thread nD τ).loc main_arg5)) (m ((c : Thread nD τ).loc main_arg6))
          (m ((c : Thread nD τ).loc main_arg9)) (m ((c : Thread nD τ).loc main_arg10)) t n := by
  have hn := n.isLt
  have ht := t.isLt
  have hp : pt12Of (ix2 t n) = (37 * (n.val / 512) + 35) + 1 := by
    show 37 * (7 * (t.val / 2048 - 0) + 1 * (n.val / 512 - 0)) + 36 = _
    omega
  have hl : loc12Of (ix2 t n) = ix2 t (⟨n.val % 512, by omega⟩ : Fin 512) := by
    funext a
    match a with
    | ⟨0, _⟩ => exact Fin.ext (Nat.mod_eq_of_lt ht)
    | ⟨1, _⟩ => rfl
  have hN : (37 * (n.val / 512) + 35) + 1 < cfg0.N := by rw [show cfg0.N = 259 from N_0]; omega
  rw [G12_eq m c _ _ hN hp, hl, ofRows_apply]
  exact updateAt_apply m c _ t _ n (by dsimp only; omega) h

/-- The rows the quantiser takes, at an index. -/
theorem tile_total (c : Dev nD) (p : Fin cfg0.N) (hl : p.val % 37 = 36) (t : Fin 2048) (j : Fin 4) (x : Fin 128) (n : Fin 3584)
    (hn : n.val = 512 * (p.val / 37) + (128 * j.val + x.val))
    (h : (adapterOf (m ((c : Thread nD τ).loc main_arg7)) (m ((c : Thread nD τ).loc main_arg8)) t).toInt < 52) :
    tileOf (addf (rowsOf (accAfter m c p.val p.isLt) (tripOf t)) (updateAt m c p (tripOf t))) j (ix2 (inTrip t) x) = total m c t n := by
  rw [tileOf_apply]
  refine congrArg₂ (· + ·) ((rowsOf_apply _ t _).trans ?_) (updateAt_apply m c p t _ n hn h)
  exact accAfter_last m c t _ n _ p.isLt hl hn

/-- Result 2 at an index: the code of the sum among its 128 columns. -/
theorem G13_apply (c : Dev nD) (t : Fin 2048) (n : Fin 3584)
    (h : (adapterOf (m ((c : Thread nD τ).loc main_arg7)) (m ((c : Thread nD τ).loc main_arg8)) t).toInt < 52) : G13 m c (ix2 t n)
    = codeOf (fun x => total m c t ⟨128 * (n.val / 128) + x.val, by omega⟩) ⟨n.val % 128, by omega⟩ := by
  have hn := n.isLt
  have ht := t.isLt
  have hp : pt13Of (ix2 t n) = (37 * (n.val / 512) + 35) + 1 := by
    show 37 * (7 * (t.val / 2048 - 0) + 1 * (n.val / 512 - 0)) + 36 = _
    omega
  have hl : loc13Of (ix2 t n) = ix2 t (⟨n.val % 512, by omega⟩ : Fin 512) := by
    funext a
    match a with
    | ⟨0, _⟩ => exact Fin.ext (Nat.mod_eq_of_lt ht)
    | ⟨1, _⟩ => rfl
  have hN : (37 * (n.val / 512) + 35) + 1 < cfg0.N := by rw [show cfg0.N = 259 from N_0]; omega
  rw [G13_eq m c _ _ hN hp, hl, codeTiles, ofTiles_apply, codesBlock_apply]
  refine congrArg₂ codeOf (funext fun x => ?_) (Fin.ext (by dsimp only; omega))
  exact tile_total m c ⟨_, hN⟩ (by dsimp only; omega) t _ x _ (by dsimp only; omega) h

/-- Result 3 at an index: the scale of 128 columns. -/
theorem G14_apply (c : Dev nD) (J : Fin 7) (g : Fin 4) (t : Fin 2048)
    (h : (adapterOf (m ((c : Thread nD τ).loc main_arg7)) (m ((c : Thread nD τ).loc main_arg8)) t).toInt < 52) : G14 m c (ix3 J g t)
    = Ideal.exp2 (rexp (magnitudeOf fun x => total m c t ⟨512 * J.val + 128 * g.val + x.val, by omega⟩)) := by
  have hJ := J.isLt
  have hg := g.isLt
  have ht := t.isLt
  have hp : pt14Of (ix3 J g t) = (37 * J.val + 35) + 1 := by
    show 37 * (1 * (J.val / 1 - 0) + 1 * (g.val / 4 - 0) + 1 * (t.val / 2048 - 0)) + 36 = _
    omega
  have hl : loc14Of (ix3 J g t) = ix3 0 g t := by
    funext a
    match a with
    | ⟨0, _⟩ => exact Fin.ext (Nat.mod_one _)
    | ⟨1, _⟩ => exact Fin.ext (Nat.mod_eq_of_lt hg)
    | ⟨2, _⟩ => exact Fin.ext (Nat.mod_eq_of_lt ht)
  have hN : (37 * J.val + 35) + 1 < cfg0.N := by rw [show cfg0.N = 259 from N_0]; omega
  rw [G14_eq m c _ _ hN hp, hl, scaleLanes, ofLanes_apply, scalesBlock_apply]
  refine congrArg (fun y => Ideal.exp2 (rexp (magnitudeOf y))) (funext fun x => ?_)
  exact tile_total m c ⟨_, hN⟩ (by dsimp only; omega) t _ x _ (by dsimp only; omega) h

end Cert.KernelIdeal.Gen
-- ==== Proof.RefReads.lean ====
/-
  The reference's unpacked words and gathered rows, read at an index.
-/
module

public import proofs.«01_k».proof.Proof.RefHost
public import proofs.«01_k».proof.Proof.RefGathers
public import proofs.«01_k».proof.Proof.Segments
public import proofs.«01_k».proof.Proof.Results

@[expose] public section

set_option maxRecDepth 16384

noncomputable section

namespace Cert.ReferenceIdeal.Gen

open Cert.MultiLora Cert.KernelIdeal.Gen Idealize.ShloMosaic Idealize.ShloMosaic.TcCoe
open Facts₀ Facts

/-- The unpacked zero points at an index. -/
theorem zeros_apply (z : IVec S148x448 32) (g : Fin 148) (n : Fin 3584) :
    zeros z (ix2 g n) = field (z (ix2 g (⟨n.val / 8, by omega⟩ : Fin 448))) (n.val % 8) := by
  unfold zeros shifts
  pointwise
  rfl

/-- The unpacked weights at an index. -/
theorem fields_apply (w : IVec S2368x3584 32) (g : Fin 148) (a : Fin 128) (n : Fin 3584) :
    fields w (ix3 g a n) = field (w (ix2 (⟨16 * g.val + a.val / 8, by omega⟩ : Fin 2368) n)) (a.val % 8) := by
  unfold fields shifts
  pointwise
  refine congrArg₂ IntOp.andi (congrArg₂ (IntOp.shrsi .host) (congrArg (fun p : Fin 2368 => w (ix2 p n)) (Fin.ext ?_)) rfl) rfl
  show g.val * 16 + a.val / 8 = 16 * g.val + a.val / 8
  omega

/-- A start's bit at a row. -/
theorem reached_apply (st : IVec S41 32) (p : Fin 41) (t : Fin 2048) :
    reached st (ix2 p t) = IntOp.cmpi .sle (st (ix1 p)) (BitVec.ofNat 32 t.val) := by
  unfold reached
  pointwise

/-- The number of starts not after a row. -/
theorem starts_apply (st : IVec S41 32) (t : Fin 2048) :
    (starts st (ix1 t)).toNat = (Finset.univ.filter fun p : Fin 41 => (st (ix1 p)).toInt ≤ (BitVec.ofNat 32 t.val).toInt).card := by
  unfold starts
  refine (StableHlo.Predicate.toNat_reduce_count_rows (by decide) (reached st) natLt_1_32 reducesTo_S41x2048_S2048_d0 h_S_ (ix1 t)).trans ?_
  refine congrArg Finset.card (Finset.filter_congr fun p _ => ?_)
  rw [← sle_one_iff, ← reached_apply]
  rfl

/-- An index counted from the end, at a place. -/
theorem wrap_apply (i : IVec S2048 32) (k : BitVec 32) (t : Fin 2048) (h : 0 ≤ (i (ix1 t)).toInt) : wrap i k (ix2 t 0) = i (ix1 t) := by
  unfold wrap everyRow
  pointwise
  exact select_not_one _ _ _ fun h' => absurd ((slt_one_iff _ _).1 h') (not_lt.mpr h)

/-- The starts are in order, from the first row to the last, and every word is below 52. -/
structure Ordered (st : IVec S41 32) (ad : IVec S40 32) : Prop where
  first : (st (ix1 0)).toInt ≤ 0
  last : 2048 ≤ (st (ix1 40)).toInt
  step : ∀ p : Fin 40, (st (ix1 p.castSucc)).toInt ≤ (st (ix1 p.succ)).toInt
  below : ∀ p : Fin 40, (ad (ix1 p)).toInt < 52

variable {st : IVec S41 32} {ad : IVec S40 32}

/-- Starts in order. -/
theorem Ordered.sorted (h : Ordered st ad) : Monotone fun p : Fin 41 => (st (ix1 p)).toInt :=
  Fin.monotone_iff_le_succ.2 h.step

theorem row_toInt (t : Fin 2048) : (BitVec.ofNat 32 t.val).toInt = t.val := by
  have := t.isLt
  rw [BitVec.toInt_eq_toNat_cond, BitVec.toNat_ofNat, if_pos (by omega)]
  omega

/-- The starts not after a row are the first ones. -/
theorem Ordered.count (h : Ordered st ad) (t : Fin 2048) (s : Fin 41) :
    (st (ix1 s)).toInt ≤ (BitVec.ofNat 32 t.val).toInt ↔ s.val < (starts st (ix1 t)).toNat := by
  rw [starts_apply]
  exact lt_card_of_sorted _ (fun p q hpq hq => (h.sorted hpq).trans hq) s

theorem Ordered.count_pos (h : Ordered st ad) (t : Fin 2048) : 1 ≤ (starts st (ix1 t)).toNat := by
  refine (h.count t 0).1 ?_
  rw [row_toInt]
  exact h.first.trans (by omega)

theorem Ordered.count_le (h : Ordered st ad) (t : Fin 2048) : (starts st (ix1 t)).toNat ≤ 40 := by
  refine not_lt.1 fun h' => ?_
  have h1 := (h.count t 40).2 h'
  have h2 := h.last
  rw [row_toInt] at h1
  have := t.isLt
  omega

theorem toNat_pred (w : BitVec 32) (h : 1 ≤ w.toNat) : (w - 1#32).toNat = w.toNat - 1 := by
  have := w.isLt
  rw [BitVec.toNat_sub, show (1#32 : BitVec 32).toNat = 1 from rfl]
  omega

/-- A segment's word, at the nearest place. -/
theorem clamped_word (ad : IVec S40 32) (a b : ℕ) (h : a = b) (ha : min a 39 < 40) :
    ad (ix1 (⟨min a 39, ha⟩ : Fin 40)) = adapterWord (F := Ideal) ad b := by
  subst h
  rfl

/-- The segment of a row. -/
theorem adapters_apply (h : Ordered st ad) (t : Fin 2048) : adapters st ad (ix1 t) = adapterOf st ad t := by
  have h1 := h.count_pos t
  have h2 := h.count_le t
  have hs : (subi (starts st) (everyRow 1#32) (ix1 t)).toNat = (starts st (ix1 t)).toNat - 1 := by
    show (starts st (ix1 t) - 1#32).toNat = _
    exact toNat_pred _ h1
  have hi : (subi (starts st) (everyRow 1#32) (ix1 t)).toInt = ((starts st (ix1 t)).toNat - 1 : ℕ) := by
    generalize subi (starts st) (everyRow 1#32) (ix1 t) = v at hs ⊢
    rw [BitVec.toInt_eq_toNat_cond, hs, if_pos (by omega)]
  have e : adapterOf st ad t = adapterWord (F := Ideal) ad ((starts st (ix1 t)).toNat - 1) := by
    refine adapterAfter_of_count _ _ _ _ 40 h1 (fun s hs => ?_) 40 h2 le_rfl
    have : startWord (F := Ideal) st s = st (ix1 (⟨s, by omega⟩ : Fin 41)) :=
      congrArg (fun p : Fin 41 => st (ix1 p)) (Fin.ext (min_eq_left hs))
    rw [this]
    exact h.count t ⟨s, by omega⟩
  have hw : wrap (subi (starts st) (everyRow 1#32)) 40#32 (ix2 t 0) = subi (starts st) (everyRow 1#32) (ix1 t) :=
    wrap_apply _ _ t (by rw [hi]; exact Int.natCast_nonneg _)
  have hn : (wrap (subi (starts st) (everyRow 1#32)) 40#32 (ix2 t 0)).toInt.toNat = (starts st (ix1 t)).toNat - 1 := by
    rw [hw, hi, Int.toNat_natCast]
  rw [e]
  exact (gather_ad ad _ t).trans (clamped_word ad _ _ hn _)

/-- The segment's word is below 52. -/
theorem Ordered.adapterOf_lt (h : Ordered st ad) (t : Fin 2048) : (adapterOf st ad t).toInt < 52 := by
  rw [← adapters_apply h]
  unfold adapters
  rw [gather_ad]
  exact h.below _

/-- The adapter a row reads. -/
theorem picks_apply (h : Ordered st ad) (t : Fin 2048) : picks st ad (ix2 t 0) = IntOp.maxsi (adapterOf st ad t) 0#32 := by
  have e : maxsi (adapters st ad) (everyRow 0#32) (ix1 t) = IntOp.maxsi (adapterOf st ad t) 0#32 := by
    rw [← adapters_apply h]
    rfl
  unfold picks
  rw [wrap_apply _ _ _ ?_, e]
  rw [e]
  rcases word_cases (adapterOf st ad t) (h.adapterOf_lt t) with h' | h'
  all_goals
    rw [h'.2.1, BitVec.toInt_eq_toNat_cond, BitVec.toNat_ofNat, if_pos (by have := (adapterIndex (adapterOf st ad t)).isLt; omega)]
    omega

theorem picks_index (h : Ordered st ad) (t : Fin 2048) (hlt) :
    (⟨min (picks st ad (ix2 t 0)).toInt.toNat 51, hlt⟩ : Fin 52) = adapterIndex (adapterOf st ad t) :=
  Fin.ext (by rw [adapterIndex_val]; dsimp only; rw [picks_apply h])

end Cert.ReferenceIdeal.Gen
-- ==== Proof.RefResults.lean ====
/-
  The reference's four results, read at an index, as functions of the arguments' arrays, and their agreement with the kernel's.
-/
module

public import proofs.«01_k».proof.Proof.RefBlocks
public import proofs.«01_k».proof.Proof.RefStored
public import proofs.«01_k».proof.Proof.RefReads

@[expose] public section

set_option maxRecDepth 16384

noncomputable section

namespace Cert.ReferenceIdeal.Gen

open Cert.MultiLora Cert.KernelIdeal.Gen Idealize.ShloMosaic Idealize.ShloMosaic.TcCoe
open Facts₀ Facts

/-- A column of numbers at a row. -/
theorem column_apply {α : Type} (y : S2048.Idx → α) (t : Fin 2048) :
    broadcastInDim S2048x1 ![0] bcast_S2048_S2048x1_0 y (ix2 t 0) = y (ix1 t) := by
  pointwise

/-- The codes turned to rows, at an index. -/
theorem turned_codes (y : Vec Ideal S16x2048 .fp8e4m3) (t : Fin 2048) (k : Fin 16) :
    transpose S2048x16 [1, 0] y transposes_S16x2048_S2048x16_1_0 (ix2 t k) = y (ix2 k t) := by
  pointwise

/-- The codes' scales turned to a column, at a row. -/
theorem turned_scales (y : Vec Ideal S1x2048 .f32) (t : Fin 2048) :
    transpose S2048x1 [1, 0] y transposes_S1x2048_S2048x1_1_0 (ix2 t 0) = y (ix2 0 t) := by
  pointwise

/-- The sum over the shared axis, from the arrays. -/
theorem base_eq (x : Vec Ideal S2048x18944 .bf16) (w : Vec Ideal S2368x3584 .i32) (z : Vec Ideal S148x448 .i32)
    (s : Vec Ideal S148x3584 .f16) (t : Fin 2048) (n : Fin 3584) :
    k0_pay3 (F := Ideal) s (fields w) (zeros z) x (ix2 t n) = base x w z s t n := by
  rw [product_apply]
  unfold base
  rw [Finset.sum_range]
  refine Finset.sum_congr rfl fun D _ => ?_
  unfold baseTerm
  rw [dif_pos D.isLt, fields_apply, zeros_apply]
  have hD := D.isLt
  have e1 : ∀ h, (⟨16 * (D.val / 128) + D.val % 128 / 8, h⟩ : Fin 2368) = ⟨D.val / 8, by omega⟩ := fun h => Fin.ext (by dsimp only; omega)
  have e2 : D.val % 128 % 8 = D.val % 8 := by omega
  dsimp only
  rw [e1, e2]

section Arrays

variable {st : IVec S41 32} {ad : IVec S40 32}

/-- The update, from the arrays. -/
theorem update_eq (h : Ordered st ad) (b : Vec Ideal S52x16x3584 .fp8e4m3) (bs : Vec Ideal S52x3584 .f32) (ls : Vec Ideal S52 .f32)
    (codes : Vec Ideal S16x2048 .fp8e4m3) (us : Vec Ideal S1x2048 .f32) (t : Fin 2048) (n : Fin 3584) :
    k0_pay6 (F := Ideal)
        (k0_pay4 (broadcastInDim S2048x1 ![0] bcast_S2048_S2048x1_0 (adapters st ad))
          (transpose S2048x16 [1, 0] codes transposes_S16x2048_S2048x16_1_0)
          (Host.gather gather_S52x16x3584_S2048x1_S2048x16x3584_12_0_n_n_0_1_1163584 b (picks st ad)))
        (k0_pay5 (transpose S2048x1 [1, 0] us transposes_S1x2048_S2048x1_1_0))
        (Host.gather gather_S52x3584_S2048x1_S2048x3584_1_0_n_n_0_1_13584 bs (picks st ad))
        (broadcastInDim S2048x1 ![0] bcast_S2048_S2048x1_0 (Host.gather gather_S52_S2048x1_S2048_n_0_n_n_0_1_1 ls (picks st ad)))
        (ix2 t n)
      = updateOfArrays (adapterOf st ad t) b bs ls codes us t n := by
  refine (delta_apply _ _ _ _ _ _ t n).trans ?_
  have hA := (column_apply (adapters st ad) t).trans (adapters_apply h t)
  have hb : ∀ k, Host.gather gather_S52x16x3584_S2048x1_S2048x16x3584_12_0_n_n_0_1_1163584 b (picks st ad) (ix3 t k n)
      = b (ix3 (adapterIndex (adapterOf st ad t)) k n) := fun k =>
    (gather_b b _ t k n).trans (congrArg (fun e => b (ix3 e k n)) (picks_index h t _))
  have hbs : Host.gather gather_S52x3584_S2048x1_S2048x3584_1_0_n_n_0_1_13584 bs (picks st ad) (ix2 t n)
      = bs (ix2 (adapterIndex (adapterOf st ad t)) n) :=
    (gather_bs bs _ t n).trans (congrArg (fun e => bs (ix2 e n)) (picks_index h t _))
  have hls : broadcastInDim S2048x1 ![0] bcast_S2048_S2048x1_0
        (Host.gather gather_S52_S2048x1_S2048_n_0_n_n_0_1_1 ls (picks st ad)) (ix2 t 0)
      = ls (ix1 (adapterIndex (adapterOf st ad t))) :=
    (column_apply _ t).trans ((gather_ls ls _ t).trans (congrArg (fun e => ls (ix1 e)) (picks_index h t _)))
  unfold updateOfArrays update
  rw [hA, hbs, hls, turned_scales]
  refine congrArg (fun S : EReal => S * us (ix2 0 t) * bs (ix2 (adapterIndex (adapterOf st ad t)) n)
    * ls (ix1 (adapterIndex (adapterOf st ad t)))) (Finset.sum_congr rfl fun k _ => ?_)
  rw [hb, turned_codes]

end Arrays

variable (m : (l : Loc nD τ sig) → Buf (Elt Ideal) l)

/-- The base product at an index. -/
theorem refBase_apply (c : Dev nD) (t : Fin 2048) (n : Fin 3584) : refBase m c (ix2 t n)
    = base (m ((c : Thread nD τ).loc main_arg0)) (m ((c : Thread nD τ).loc main_arg1)) (m ((c : Thread nD τ).loc main_arg2))
      (m ((c : Thread nD τ).loc main_arg3)) t n := by
  unfold refBase
  rw [V_fields, V_zeros, V_main_arg0, V_main_arg3]
  exact base_eq _ _ _ _ t n

/-- The update at an index. -/
theorem refUpdate_apply (c : Dev nD) (h : Ordered (m ((c : Thread nD τ).loc main_arg7)) (m ((c : Thread nD τ).loc main_arg8)))
    (t : Fin 2048) (n : Fin 3584) :
    k0_pay6 (F := Ideal) (refAcc m c) (refUs m c) (V m c main_v48) (V m c main_v56) (ix2 t n)
      = updateOfArrays (adapterOf (m ((c : Thread nD τ).loc main_arg7)) (m ((c : Thread nD τ).loc main_arg8)) t)
          (m ((c : Thread nD τ).loc main_arg4)) (m ((c : Thread nD τ).loc main_arg5)) (m ((c : Thread nD τ).loc main_arg6))
          (m ((c : Thread nD τ).loc main_arg9)) (m ((c : Thread nD τ).loc main_arg10)) t n := by
  unfold refAcc refUs
  rw [V_adapters, V_codes, V_us, V_b, V_bs, V_ls]
  exact update_eq h _ _ _ _ _ t n

end Cert.ReferenceIdeal.Gen
-- ==== Proof.Equal.lean ====
/-
  The reference's four results are the kernel's, where the segments' starts are in order.
-/
module

public import proofs.«01_k».proof.Defs
public import proofs.«01_k».proof.Proof.RefResults
public import proofs.«01_k».proof.Proof.Gen.Pre_segments

@[expose] public section

set_option maxRecDepth 16384

noncomputable section

namespace Cert.Proof

open Cert.MultiLora Cert.KernelIdeal.Gen Cert.ReferenceIdeal.Gen Idealize.ShloMosaic Idealize.ShloMosaic.TcCoe

/-- The tests the precondition makes, at a place of each. -/
theorem ordered_of (x : FVec Ideal Pre_segments.S2048x18944 .bf16) (w : IVec Pre_segments.S2368x3584 32) (z : IVec Pre_segments.S148x448 32)
    (s : FVec Ideal Pre_segments.S148x3584 .f16) (b : FVec Ideal Pre_segments.S52x16x3584 .fp8e4m3) (bs : FVec Ideal Pre_segments.S52x3584 .f32)
    (ls : FVec Ideal Pre_segments.S52 .f32) (st : IVec Pre_segments.S41 32) (ad : IVec Pre_segments.S40 32)
    (codes : FVec Ideal Pre_segments.S16x2048 .fp8e4m3) (us : FVec Ideal Pre_segments.S1x2048 .f32)
    (h1 : (Pre_segments.fn (F := Ideal) x w z s b bs ls st ad codes us).1 = fun _ => 1#1)
    (h2 : (Pre_segments.fn (F := Ideal) x w z s b bs ls st ad codes us).2.1 = fun _ => 1#1)
    (h3 : (Pre_segments.fn (F := Ideal) x w z s b bs ls st ad codes us).2.2.1 = fun _ => 1#1)
    (h4 : (Pre_segments.fn (F := Ideal) x w z s b bs ls st ad codes us).2.2.2 = fun _ => 1#1) : Ordered st ad := by
  have g1 := congrFun h1 ix0
  have g2 := congrFun h2 ix0
  have g3 := fun p : Fin 40 => congrFun h3 (ix1 p)
  have g4 := fun p : Fin 40 => congrFun h4 (ix1 p)
  unfold Pre_segments.fn at g1 g2 g3 g4
  dsimp only at g1 g2 g3 g4
  have e1 : shapeCast Pre_segments.S_ (extractStridedSlice Pre_segments.S1 ![0] st Pre_segments.Facts.slices_S41_S1_0)
      Pre_segments.Facts.shapeCasts_S1_S_ ix0 = st (ix1 0) := by pointwise
  have e2 : shapeCast Pre_segments.S_ (extractStridedSlice Pre_segments.S1 ![40] st Pre_segments.Facts.slices_S41_S1_40)
      Pre_segments.Facts.shapeCasts_S1_S_ ix0 = st (ix1 40) := by pointwise
  have e3 : ∀ p : Fin 40, extractStridedSlice Pre_segments.S40 ![0] st Pre_segments.Facts.slices_S41_S40_0 (ix1 p) = st (ix1 p.castSucc) := by
    intro p; pointwise; rfl
  have e4 : ∀ p : Fin 40, extractStridedSlice Pre_segments.S40 ![1] st Pre_segments.Facts.slices_S41_S40_1 (ix1 p) = st (ix1 p.succ) := by
    intro p; pointwise; exact congrArg (fun q => st (ix1 q)) (Fin.ext (Nat.add_comm _ _))
  refine ⟨?_, ?_, fun p => ?_, fun p => ?_⟩
  · rw [← e1]
    exact (sle_one_iff _ _).1 g1
  · rw [← e2]
    exact (sge_one_iff _ _).1 g2
  · rw [← e3, ← e4]
    exact (sle_one_iff _ _).1 (g3 p)
  · exact (slt_one_iff _ _).1 (g4 p)

variable (m : (l : Loc KernelIdeal.nD KernelIdeal.τ KernelIdeal.sig) → Buf (Elt Ideal) l)
variable (m' : (l : Loc ReferenceIdeal.nD ReferenceIdeal.τ ReferenceIdeal.sig) → Buf (Elt Ideal) l)

/-- The two programs' arguments are the same on a device. -/
structure Same (c : Dev KernelIdeal.nD) : Prop where
  h0 : m' ((c.tc : Thread ReferenceIdeal.nD ReferenceIdeal.τ).loc ReferenceIdeal.main_arg0) = m ((c.tc : Thread KernelIdeal.nD KernelIdeal.τ).loc KernelIdeal.main_arg0)
  h1 : m' ((c.tc : Thread ReferenceIdeal.nD ReferenceIdeal.τ).loc ReferenceIdeal.main_arg1) = m ((c.tc : Thread KernelIdeal.nD KernelIdeal.τ).loc KernelIdeal.main_arg1)
  h2 : m' ((c.tc : Thread ReferenceIdeal.nD ReferenceIdeal.τ).loc ReferenceIdeal.main_arg2) = m ((c.tc : Thread KernelIdeal.nD KernelIdeal.τ).loc KernelIdeal.main_arg2)
  h3 : m' ((c.tc : Thread ReferenceIdeal.nD ReferenceIdeal.τ).loc ReferenceIdeal.main_arg3) = m ((c.tc : Thread KernelIdeal.nD KernelIdeal.τ).loc KernelIdeal.main_arg3)
  h4 : m' ((c.tc : Thread ReferenceIdeal.nD ReferenceIdeal.τ).loc ReferenceIdeal.main_arg4) = m ((c.tc : Thread KernelIdeal.nD KernelIdeal.τ).loc KernelIdeal.main_arg4)
  h5 : m' ((c.tc : Thread ReferenceIdeal.nD ReferenceIdeal.τ).loc ReferenceIdeal.main_arg5) = m ((c.tc : Thread KernelIdeal.nD KernelIdeal.τ).loc KernelIdeal.main_arg5)
  h6 : m' ((c.tc : Thread ReferenceIdeal.nD ReferenceIdeal.τ).loc ReferenceIdeal.main_arg6) = m ((c.tc : Thread KernelIdeal.nD KernelIdeal.τ).loc KernelIdeal.main_arg6)
  h7 : m' ((c.tc : Thread ReferenceIdeal.nD ReferenceIdeal.τ).loc ReferenceIdeal.main_arg7) = m ((c.tc : Thread KernelIdeal.nD KernelIdeal.τ).loc KernelIdeal.main_arg7)
  h8 : m' ((c.tc : Thread ReferenceIdeal.nD ReferenceIdeal.τ).loc ReferenceIdeal.main_arg8) = m ((c.tc : Thread KernelIdeal.nD KernelIdeal.τ).loc KernelIdeal.main_arg8)
  h9 : m' ((c.tc : Thread ReferenceIdeal.nD ReferenceIdeal.τ).loc ReferenceIdeal.main_arg9) = m ((c.tc : Thread KernelIdeal.nD KernelIdeal.τ).loc KernelIdeal.main_arg9)
  h10 : m' ((c.tc : Thread ReferenceIdeal.nD ReferenceIdeal.τ).loc ReferenceIdeal.main_arg10) = m ((c.tc : Thread KernelIdeal.nD KernelIdeal.τ).loc KernelIdeal.main_arg10)

variable {m m'} {c : Dev KernelIdeal.nD}

/-- The starts and the words, with every start in order. -/
abbrev OrderedAt (m : (l : Loc KernelIdeal.nD KernelIdeal.τ KernelIdeal.sig) → Buf (Elt Ideal) l) (c : Dev KernelIdeal.nD) : Prop :=
  Ordered (m ((c.tc : Thread KernelIdeal.nD KernelIdeal.τ).loc KernelIdeal.main_arg7)) (m ((c.tc : Thread KernelIdeal.nD KernelIdeal.τ).loc KernelIdeal.main_arg8))

/-- The reference's base product, from the kernel's arguments. -/
theorem base_same (h : Same m m' c) (t : Fin 2048) (n : Fin 3584) : refBase m' c (ix2 t n) = KernelIdeal.Value.G11 m c (ix2 t n) := by
  rw [G11_apply]
  refine (refBase_apply m' c t n).trans ?_
  rw [h.h0, h.h1, h.h2, h.h3]

/-- The reference's update, from the kernel's arguments. -/
theorem update_same (h : Same m m' c) (ho : OrderedAt m c) (t : Fin 2048) (n : Fin 3584) :
    ReferenceIdeal.Gen.k0_pay6 (F := Ideal) (refAcc m' c) (refUs m' c) (ReferenceIdeal.Gen.V m' c ReferenceIdeal.main_v48)
        (ReferenceIdeal.Gen.V m' c ReferenceIdeal.main_v56) (ix2 t n)
      = KernelIdeal.Value.G12 m c (ix2 t n) := by
  rw [G12_apply m c t n (ho.adapterOf_lt t)]
  refine (refUpdate_apply m' c (by rw [h.h7, h.h8]; exact ho) t n).trans ?_
  rw [h.h4, h.h5, h.h6, h.h7, h.h8, h.h9, h.h10]

/-- The reference's quantised array, from the kernel's arguments. -/
theorem tiles_same (h : Same m m' c) (ho : OrderedAt m c) (t : Fin 2048) (J : Fin 7) (g : Fin 4) (x : Fin 128) (n : Fin 3584)
    (hn : n.val = 512 * J.val + 128 * g.val + x.val) :
    ReferenceIdeal.Gen.k0_pay7 (F := Ideal) (refBase m' c) (refAcc m' c) (refUs m' c) (ReferenceIdeal.Gen.V m' c ReferenceIdeal.main_v48)
        (ReferenceIdeal.Gen.V m' c ReferenceIdeal.main_v56) (ix4 t J g x) = total m c t n := by
  refine (tiles_apply _ _ _ _ _ t J g x n hn).trans ?_
  refine congrArg₂ (· + ·) ?_ ?_
  · exact (base_same h t n).trans (G11_apply m c t n)
  · exact (update_same h ho t n).trans (G12_apply m c t n (ho.adapterOf_lt t))

/-- Result 0 is the same. -/
theorem equal0 (h : Same m m' c) :
    (ReferenceIdeal.Gen.dats m' 0 c).arrAt 10 ReferenceIdeal.cfg0.N = KernelIdeal.Value.G11 m c := by
  refine (result0 m' c).trans ?_
  funext j
  obtain ⟨t, n, rfl⟩ : ∃ t n, j = ix2 t n := ⟨j 0, j 1, (ix2_eta j).symm⟩
  exact base_same h t n

/-- Result 1 is the same. -/
theorem equal1 (h : Same m m' c) (ho : OrderedAt m c) :
    (ReferenceIdeal.Gen.dats m' 0 c).arrAt 11 ReferenceIdeal.cfg0.N = KernelIdeal.Value.G12 m c := by
  refine (result1 m' c).trans ?_
  funext j
  obtain ⟨t, n, rfl⟩ : ∃ t n, j = ix2 t n := ⟨j 0, j 1, (ix2_eta j).symm⟩
  exact update_same h ho t n

/-- Result 2 is the same. -/
theorem equal2 (h : Same m m' c) (ho : OrderedAt m c) :
    (ReferenceIdeal.Gen.dats m' 0 c).arrAt 12 ReferenceIdeal.cfg0.N = KernelIdeal.Value.G13 m c := by
  refine (result2 m' c).trans ?_
  funext j
  obtain ⟨t, n, rfl⟩ : ∃ t n, j = ix2 t n := ⟨j 0, j 1, (ix2_eta j).symm⟩
  have hn : n.val < 3584 := n.isLt
  refine Eq.trans ?_ (G13_apply m c t n (ho.adapterOf_lt t)).symm
  refine (codes_apply _ _ _ _ _ t n (⟨n.val / 512, by omega⟩ : Fin 7) (⟨n.val % 512 / 128, by omega⟩ : Fin 4)
    (⟨n.val % 128, by omega⟩ : Fin 128) (by dsimp only; omega)).trans ?_
  refine congrArg (fun y => codeOf y _) (funext fun x => ?_)
  exact tiles_same h ho t _ _ x _ (by dsimp only; omega)

/-- Result 3 is the same. -/
theorem equal3 (h : Same m m' c) (ho : OrderedAt m c) :
    (ReferenceIdeal.Gen.dats m' 0 c).arrAt 13 ReferenceIdeal.cfg0.N = KernelIdeal.Value.G14 m c := by
  refine (result3 m' c).trans ?_
  funext j
  obtain ⟨J, g, t, rfl⟩ : ∃ J g t, j = ix3 J g t := ⟨j 0, j 1, j 2, (ix3_eta j).symm⟩
  refine Eq.trans ?_ (G14_apply m c J g t (ho.adapterOf_lt t)).symm
  refine (scales_apply _ t J g).trans ?_
  refine congrArg Ideal.exp2 ((exponent_apply _ _ _ _ _ t J g).trans ?_)
  refine congrArg (fun y => rexp (magnitudeOf y)) (funext fun x => ?_)
  exact tiles_same h ho t J g x _ rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_segments
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's results over the extended reals are the reference's, where the segments' starts are in order. -/
theorem equal : Cert.algebraic_KernelIdeal_ReferenceIdeal_pre_segments := by
  intro m g m' g' hp ha
  have ho : ∀ c, OrderedAt m c := fun c => ordered_of _ _ _ _ _ _ _ _ _ _ _ (hp c).1 (hp c).2.1 (hp c).2.2.1 (hp c).2.2.2
  have hs : ∀ c, Same m m' c := fun c => by
    obtain ⟨h0, h1, h2, h3, h4, h5, h6, h7, h8, h9, h10⟩ := ha c
    exact ⟨h0, h1, h2, h3, h4, h5, h6, h7, h8, h9, h10⟩
  refine ⟨fun c => Cert.KernelIdeal.Value.G11 m c, fun c => Cert.KernelIdeal.Value.G12 m c, fun c => Cert.KernelIdeal.Value.G13 m c,
    fun c => Cert.KernelIdeal.Value.G14 m c, Cert.KernelIdeal.Value.run m g, ?_⟩
  refine (θ_run (Cert.ReferenceIdeal.defs (F := Ideal)) _ _).mono (fun r hr c => ?_) (Cert.ReferenceIdeal.Value.run_blocks m' g')
  obtain ⟨r0, r1, r2, r3, rest⟩ := hr c
  exact ⟨r0.trans (equal0 (hs c)), r1.trans (equal1 (hs c) (ho c)), r2.trans (equal2 (hs c) (ho c)), r3.trans (equal3 (hs c) (ho c)), rest⟩

theorem claim : Cert.Claim := ⟨Cert.Kernel.Gen.facts, Cert.KernelIdeal.Gen.facts, Cert.Reference.Gen.facts, Cert.ReferenceIdeal.Gen.facts, Cert.Pre_segments.Gen.facts,
  fun m g _ => Cert.Kernel.Gen.frame m g,
  fun m g _ => Cert.KernelIdeal.Gen.frame m g,
  fun m g _ => Cert.KernelIdeal.Gen.frame m g,
  fun m g _ => Cert.Reference.Gen.frame m g,
  fun m g _ => Cert.ReferenceIdeal.Gen.frame m g,
  fun m g _ => Cert.ReferenceIdeal.Gen.frame m g,
  trivial,
  equal⟩

end Cert.Proof

end
